-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "neg_log2e" .f32 0xBFB8AA3B#32 ((-((Real.log 2)⁻¹) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S49664x1024 : Shape := ⟨2, ![49664, 1024]⟩
abbrev S1024 : Shape := ⟨1, ![1024]⟩
abbrev S1024x2816 : Shape := ⟨2, ![1024, 2816]⟩
abbrev S2816x1024 : Shape := ⟨2, ![2816, 1024]⟩
abbrev S96 : Shape := ⟨1, ![96]⟩
abbrev S1x1024 : Shape := ⟨2, ![1, 1024]⟩
abbrev S16384x1024 : Shape := ⟨2, ![16384, 1024]⟩
abbrev S32768x1024 : Shape := ⟨2, ![32768, 1024]⟩
abbrev S512x1024 : Shape := ⟨2, ![512, 1024]⟩
abbrev S1 : Shape := ⟨1, ![1]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 15
  | .vmem => 12
  | .smem => 1
  | _ => 0

abbrev bufTy : (tb : Table) → Fin (tcTables nBuf tb) → BufTy
  | .hbm, ⟨0, _⟩ => ⟨S49664x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S16384x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .smem, ⟨0, _⟩ => ⟨S96, .i32⟩
  | _, _ => ⟨S49664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def k0_cond1 (i : grid0.Coords) : BitVec 1 :=
  let arg0 : BitVec 32 := BitVec.ofNat 32 (i 0).val
  let c32_i32 : BitVec 32 := 32#32
  let v244 : BitVec 1 := Scalar.cmpi .slt arg0 c32_i32
  let v245 : BitVec 32 := Scalar.extui v244
  let c0_i32 : BitVec 32 := 0#32
  let v246 : BitVec 1 := Scalar.cmpi .ne v245 c0_i32
  v246

def k0_cond2 (i : grid0.Coords) : BitVec 1 :=
  let arg0 : BitVec 32 := BitVec.ofNat 32 (i 0).val
  let c32_i32_127 : BitVec 32 := 32#32
  let v247 : BitVec 1 := Scalar.cmpi .sge arg0 c32_i32_127
  let v248 : BitVec 32 := Scalar.extui v247
  let c0_i32_128 : BitVec 32 := 0#32
  let v249 : BitVec 1 := Scalar.cmpi .ne v248 c0_i32_128
  v249

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S49664x1024 : Shape := ⟨2, ![49664, 1024]⟩
abbrev S1024 : Shape := ⟨1, ![1024]⟩
abbrev S1024x2816 : Shape := ⟨2, ![1024, 2816]⟩
abbrev S2816x1024 : Shape := ⟨2, ![2816, 1024]⟩
abbrev S16512x1024 : Shape := ⟨2, ![16512, 1024]⟩
abbrev S8x2064x1024 : Shape := ⟨3, ![8, 2064, 1024]⟩
abbrev S32800x1024 : Shape := ⟨2, ![32800, 1024]⟩
abbrev S2x16400x1024 : Shape := ⟨3, ![2, 16400, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2064x2816 : Shape := ⟨3, ![8, 2064, 2816]⟩
abbrev S8x2048x1024 : Shape := ⟨3, ![8, 2048, 1024]⟩
abbrev S16384x1024 : Shape := ⟨2, ![16384, 1024]⟩
abbrev S2x16400 : Shape := ⟨2, ![2, 16400]⟩
abbrev S2x16400x1 : Shape := ⟨3, ![2, 16400, 1]⟩
abbrev S2x16400x2816 : Shape := ⟨3, ![2, 16400, 2816]⟩
abbrev S2x16384x1024 : Shape := ⟨3, ![2, 16384, 1024]⟩
abbrev S32768x1024 : Shape := ⟨2, ![32768, 1024]⟩

abbrev nBuf : Space → Nat
  | .hbm => 145
  | .vmem => 0
  | .smem => 0
  | _ => 0

abbrev hbmTy0_0 (i : Nat) : BufTy := match i % 128 with
  | 0 => ⟨S49664x1024, .f32⟩
  | 1 => ⟨S1024, .f32⟩
  | 2 => ⟨S1024, .f32⟩
  | 3 => ⟨S1024x2816, .f32⟩
  | 4 => ⟨S1024x2816, .f32⟩
  | 5 => ⟨S2816x1024, .f32⟩
  | 6 => ⟨S1024, .f32⟩
  | 7 => ⟨S16512x1024, .f32⟩
  | 8 => ⟨S8x2064x1024, .f32⟩
  | 9 => ⟨S32800x1024, .f32⟩
  | 10 => ⟨S2x16400x1024, .f32⟩
  | 11 => ⟨S8x2064x1024, .f32⟩
  | 12 => ⟨S_, .f32⟩
  | 13 => ⟨S8x2064, .f32⟩
  | 14 => ⟨S8x2064x1, .f32⟩
  | 15 => ⟨S_, .f32⟩
  | 16 => ⟨S8x2064x1, .f32⟩
  | 17 => ⟨S8x2064x1, .f32⟩
  | 18 => ⟨S_, .f32⟩
  | 19 => ⟨S8x2064x1, .f32⟩
  | 20 => ⟨S8x2064x1, .f32⟩
  | 21 => ⟨S8x2064x1, .f32⟩
  | 22 => ⟨S8x2064x1024, .f32⟩
  | 23 => ⟨S8x2064x1024, .f32⟩
  | 24 => ⟨S1x1x1024, .f32⟩
  | 25 => ⟨S8x2064x1024, .f32⟩
  | 26 => ⟨S8x2064x1024, .f32⟩
  | 27 => ⟨S8x2064x2816, .f32⟩
  | 28 => ⟨S8x2064x2816, .f32⟩
  | 29 => ⟨S8x2064x2816, .f32⟩
  | 30 => ⟨S_, .f32⟩
  | 31 => ⟨S8x2064x2816, .f32⟩
  | 32 => ⟨S8x2064x2816, .f32⟩
  | 33 => ⟨S_, .f32⟩
  | 34 => ⟨S8x2064x2816, .f32⟩
  | 35 => ⟨S8x2064x2816, .f32⟩
  | 36 => ⟨S8x2064x2816, .f32⟩
  | 37 => ⟨S8x2064x2816, .f32⟩
  | 38 => ⟨S8x2064x2816, .f32⟩
  | 39 => ⟨S8x2064x1024, .f32⟩
  | 40 => ⟨S8x2064x1024, .f32⟩
  | 41 => ⟨S_, .f32⟩
  | 42 => ⟨S8x2064, .f32⟩
  | 43 => ⟨S8x2064x1, .f32⟩
  | 44 => ⟨S_, .f32⟩
  | 45 => ⟨S8x2064x1, .f32⟩
  | 46 => ⟨S8x2064x1, .f32⟩
  | 47 => ⟨S_, .f32⟩
  | 48 => ⟨S8x2064x1, .f32⟩
  | 49 => ⟨S8x2064x1, .f32⟩
  | 50 => ⟨S8x2064x1, .f32⟩
  | 51 => ⟨S8x2064x1024, .f32⟩
  | 52 => ⟨S8x2064x1024, .f32⟩
  | 53 => ⟨S1x1x1024, .f32⟩
  | 54 => ⟨S8x2064x1024, .f32⟩
  | 55 => ⟨S8x2064x1024, .f32⟩
  | 56 => ⟨S_, .f32⟩
  | 57 => ⟨S8x2064x1024, .f32⟩
  | 58 => ⟨S8x2064x1024, .f32⟩
  | 59 => ⟨S8x2064x1024, .f32⟩
  | 60 => ⟨S8x2064x1024, .f32⟩
  | 61 => ⟨S_, .f32⟩
  | 62 => ⟨S8x2064, .f32⟩
  | 63 => ⟨S8x2064x1, .f32⟩
  | 64 => ⟨S_, .f32⟩
  | 65 => ⟨S8x2064x1, .f32⟩
  | 66 => ⟨S8x2064x1, .f32⟩
  | 67 => ⟨S_, .f32⟩
  | 68 => ⟨S8x2064x1, .f32⟩
  | 69 => ⟨S8x2064x1, .f32⟩
  | 70 => ⟨S8x2064x1, .f32⟩
  | 71 => ⟨S8x2064x1024, .f32⟩
  | 72 => ⟨S8x2064x1024, .f32⟩
  | 73 => ⟨S1x1x1024, .f32⟩
  | 74 => ⟨S8x2064x1024, .f32⟩
  | 75 => ⟨S8x2064x1024, .f32⟩
  | 76 => ⟨S8x2048x1024, .f32⟩
  | 77 => ⟨S16384x1024, .f32⟩
  | 78 => ⟨S2x16400x1024, .f32⟩
  | 79 => ⟨S_, .f32⟩
  | 80 => ⟨S2x16400, .f32⟩
  | 81 => ⟨S2x16400x1, .f32⟩
  | 82 => ⟨S_, .f32⟩
  | 83 => ⟨S2x16400x1, .f32⟩
  | 84 => ⟨S2x16400x1, .f32⟩
  | 85 => ⟨S_, .f32⟩
  | 86 => ⟨S2x16400x1, .f32⟩
  | 87 => ⟨S2x16400x1, .f32⟩
  | 88 => ⟨S2x16400x1, .f32⟩
  | 89 => ⟨S2x16400x1024, .f32⟩
  | 90 => ⟨S2x16400x1024, .f32⟩
  | 91 => ⟨S1x1x1024, .f32⟩
  | 92 => ⟨S2x16400x1024, .f32⟩
  | 93 => ⟨S2x16400x1024, .f32⟩
  | 94 => ⟨S2x16400x2816, .f32⟩
  | 95 => ⟨S2x16400x2816, .f32⟩
  | 96 => ⟨S2x16400x2816, .f32⟩
  | 97 => ⟨S_, .f32⟩
  | 98 => ⟨S2x16400x2816, .f32⟩
  | 99 => ⟨S2x16400x2816, .f32⟩
  | 100 => ⟨S_, .f32⟩
  | 101 => ⟨S2x16400x2816, .f32⟩
  | 102 => ⟨S2x16400x2816, .f32⟩
  | 103 => ⟨S2x16400x2816, .f32⟩
  | 104 => ⟨S2x16400x2816, .f32⟩
  | 105 => ⟨S2x16400x2816, .f32⟩
  | 106 => ⟨S2x16400x1024, .f32⟩
  | 107 => ⟨S2x16400x1024, .f32⟩
  | 108 => ⟨S_, .f32⟩
  | 109 => ⟨S2x16400, .f32⟩
  | 110 => ⟨S2x16400x1, .f32⟩
  | 111 => ⟨S_, .f32⟩
  | 112 => ⟨S2x16400x1, .f32⟩
  | 113 => ⟨S2x16400x1, .f32⟩
  | 114 => ⟨S_, .f32⟩
  | 115 => ⟨S2x16400x1, .f32⟩
  | 116 => ⟨S2x16400x1, .f32⟩
  | 117 => ⟨S2x16400x1, .f32⟩
  | 118 => ⟨S2x16400x1024, .f32⟩
  | 119 => ⟨S2x16400x1024, .f32⟩
  | 120 => ⟨S1x1x1024, .f32⟩
  | 121 => ⟨S2x16400x1024, .f32⟩
  | 122 => ⟨S2x16400x1024, .f32⟩
  | 123 => ⟨S_, .f32⟩
  | 124 => ⟨S2x16400x1024, .f32⟩
  | 125 => ⟨S2x16400x1024, .f32⟩
  | 126 => ⟨S2x16400x1024, .f32⟩
  | 127 => ⟨S2x16400x1024, .f32⟩
  | _ => ⟨S49664x1024, .f32⟩

abbrev hbmTy0_1 (i : Nat) : BufTy := match i % 128 with
  | 0 => ⟨S_, .f32⟩
  | 1 => ⟨S2x16400, .f32⟩
  | 2 => ⟨S2x16400x1, .f32⟩
  | 3 => ⟨S_, .f32⟩
  | 4 => ⟨S2x16400x1, .f32⟩
  | 5 => ⟨S2x16400x1, .f32⟩
  | 6 => ⟨S_, .f32⟩
  | 7 => ⟨S2x16400x1, .f32⟩
  | 8 => ⟨S2x16400x1, .f32⟩
  | 9 => ⟨S2x16400x1, .f32⟩
  | 10 => ⟨S2x16400x1024, .f32⟩
  | 11 => ⟨S2x16400x1024, .f32⟩
  | 12 => ⟨S1x1x1024, .f32⟩
  | 13 => ⟨S2x16400x1024, .f32⟩
  | 14 => ⟨S2x16400x1024, .f32⟩
  | 15 => ⟨S2x16384x1024, .f32⟩
  | 16 => ⟨S32768x1024, .f32⟩
  | _ => ⟨S49664x1024, .f32⟩

abbrev hbmTy (i : Nat) : BufTy := match i / 128 with
  | 0 => hbmTy0_0 i
  | 1 => hbmTy0_1 i
  | _ => ⟨S49664x1024, .f32⟩

abbrev bufTy : (tb : Table) → Fin (tcTables nBuf tb) → BufTy
  | .hbm, ⟨i, _⟩ => hbmTy i
  | _, _ => ⟨S49664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_12 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_cst_17 : Ref sig .tc := ⟨.hbm, 131, rfl⟩
abbrev main_v90 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]
-- ==== Kernel2.lean ====
abbrev S49664x1024 : Shape := ⟨2, ![49664, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S49664x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S49664x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S49664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![97], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S49664x1024 : Shape := ⟨2, ![49664, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S49664 : Shape := ⟨1, ![49664]⟩
abbrev S49664x1 : Shape := ⟨2, ![49664, 1]⟩
abbrev S1x1024 : Shape := ⟨2, ![1, 1024]⟩
abbrev S49664x2816 : Shape := ⟨2, ![49664, 2816]⟩

abbrev nBuf : Space → Nat
  | .hbm => 55
  | .vmem => 0
  | .smem => 0
  | _ => 0

abbrev bufTy : (tb : Table) → Fin (tcTables nBuf tb) → BufTy
  | .hbm, ⟨0, _⟩ => ⟨S49664x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S49664x1024, .f32⟩
  | .hbm, ⟨7, _⟩ => ⟨S_, .f32⟩
  | .hbm, ⟨8, _⟩ => ⟨S49664, .f32⟩
  | .hbm, ⟨9, _⟩ => ⟨S49664x1, .f32⟩
  | .hbm, ⟨10, _⟩ => ⟨S_, .f32⟩
  | .hbm, ⟨11, _⟩ => ⟨S49664x1, .f32⟩
  | .hbm, ⟨12, _⟩ => ⟨S49664x1, .f32⟩
  | .hbm, ⟨13, _⟩ => ⟨S_, .f32⟩
  | .hbm, ⟨14, _⟩ => ⟨S49664x1, .f32⟩
  | .hbm, ⟨15, _⟩ => ⟨S49664x1, .f32⟩
  | .hbm, ⟨16, _⟩ => ⟨S49664x1, .f32⟩
  | .hbm, ⟨17, _⟩ => ⟨S49664x1024, .f32⟩
  | .hbm, ⟨18, _⟩ => ⟨S49664x1024, .f32⟩
  | .hbm, ⟨19, _⟩ => ⟨S1x1024, .f32⟩
  | .hbm, ⟨20, _⟩ => ⟨S49664x1024, .f32⟩
  | .hbm, ⟨21, _⟩ => ⟨S49664x1024, .f32⟩
  | .hbm, ⟨22, _⟩ => ⟨S49664x2816, .f32⟩
  | .hbm, ⟨23, _⟩ => ⟨S49664x2816, .f32⟩
  | .hbm, ⟨24, _⟩ => ⟨S49664x2816, .f32⟩
  | .hbm, ⟨25, _⟩ => ⟨S_, .f32⟩
  | .hbm, ⟨26, _⟩ => ⟨S49664x2816, .f32⟩
  | .hbm, ⟨27, _⟩ => ⟨S49664x2816, .f32⟩
  | .hbm, ⟨28, _⟩ => ⟨S_, .f32⟩
  | .hbm, ⟨29, _⟩ => ⟨S49664x2816, .f32⟩
  | .hbm, ⟨30, _⟩ => ⟨S49664x2816, .f32⟩
  | .hbm, ⟨31, _⟩ => ⟨S49664x2816, .f32⟩
  | .hbm, ⟨32, _⟩ => ⟨S49664x2816, .f32⟩
  | .hbm, ⟨33, _⟩ => ⟨S49664x2816, .f32⟩
  | .hbm, ⟨34, _⟩ => ⟨S49664x1024, .f32⟩
  | .hbm, ⟨35, _⟩ => ⟨S49664x1024, .f32⟩
  | .hbm, ⟨36, _⟩ => ⟨S_, .f32⟩
  | .hbm, ⟨37, _⟩ => ⟨S49664, .f32⟩
  | .hbm, ⟨38, _⟩ => ⟨S49664x1, .f32⟩
  | .hbm, ⟨39, _⟩ => ⟨S_, .f32⟩
  | .hbm, ⟨40, _⟩ => ⟨S49664x1, .f32⟩
  | .hbm, ⟨41, _⟩ => ⟨S49664x1, .f32⟩
  | .hbm, ⟨42, _⟩ => ⟨S_, .f32⟩
  | .hbm, ⟨43, _⟩ => ⟨S49664x1, .f32⟩
  | .hbm, ⟨44, _⟩ => ⟨S49664x1, .f32⟩
  | .hbm, ⟨45, _⟩ => ⟨S49664x1, .f32⟩
  | .hbm, ⟨46, _⟩ => ⟨S49664x1024, .f32⟩
  | .hbm, ⟨47, _⟩ => ⟨S49664x1024, .f32⟩
  | .hbm, ⟨48, _⟩ => ⟨S1x1024, .f32⟩
  | .hbm, ⟨49, _⟩ => ⟨S49664x1024, .f32⟩
  | .hbm, ⟨50, _⟩ => ⟨S49664x1024, .f32⟩
  | .hbm, ⟨51, _⟩ => ⟨S_, .f32⟩
  | .hbm, ⟨52, _⟩ => ⟨S49664x1024, .f32⟩
  | .hbm, ⟨53, _⟩ => ⟨S49664x1024, .f32⟩
  | .hbm, ⟨54, _⟩ => ⟨S49664x1024, .f32⟩
  | _, _ => ⟨S49664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S49664x1024 : Shape := ⟨2, ![49664, 1024]⟩
abbrev S1024 : Shape := ⟨1, ![1024]⟩
abbrev S1024x3072 : Shape := ⟨2, ![1024, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩

abbrev nBuf : Space → Nat
  | .hbm => 7
  | .vmem => 8
  | .smem => 0
  | _ => 0

abbrev bufTy : (tb : Table) → Fin (tcTables nBuf tb) → BufTy
  | .hbm, ⟨0, _⟩ => ⟨S49664x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S49664x1024, .f32⟩
  | .hbm, ⟨6, _⟩ => ⟨S49664x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S49664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![97], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S49664x1024 : Shape := ⟨2, ![49664, 1024]⟩
abbrev S1024 : Shape := ⟨1, ![1024]⟩
abbrev S1024x3072 : Shape := ⟨2, ![1024, 3072]⟩
abbrev S_ : Shape := ⟨0, ![]⟩
abbrev S49664 : Shape := ⟨1, ![49664]⟩
abbrev S49664x1 : Shape := ⟨2, ![49664, 1]⟩
abbrev S1x1024 : Shape := ⟨2, ![1, 1024]⟩
abbrev S49664x3072 : Shape := ⟨2, ![49664, 3072]⟩

abbrev nBuf : Space → Nat
  | .hbm => 24
  | .vmem => 0
  | .smem => 0
  | _ => 0

abbrev bufTy : (tb : Table) → Fin (tcTables nBuf tb) → BufTy
  | .hbm, ⟨0, _⟩ => ⟨S49664x1024, .f32⟩
  | .hbm, ⟨1, _⟩ => ⟨S1024, .f32⟩
  | .hbm, ⟨2, _⟩ => ⟨S1024x3072, .f32⟩
  | .hbm, ⟨3, _⟩ => ⟨S49664x1024, .f32⟩
  | .hbm, ⟨4, _⟩ => ⟨S_, .f32⟩
  | .hbm, ⟨5, _⟩ => ⟨S49664, .f32⟩
  | .hbm, ⟨6, _⟩ => ⟨S49664x1, .f32⟩
  | .hbm, ⟨7, _⟩ => ⟨S_, .f32⟩
  | .hbm, ⟨8, _⟩ => ⟨S49664x1, .f32⟩
  | .hbm, ⟨9, _⟩ => ⟨S49664x1, .f32⟩
  | .hbm, ⟨10, _⟩ => ⟨S_, .f32⟩
  | .hbm, ⟨11, _⟩ => ⟨S49664x1, .f32⟩
  | .hbm, ⟨12, _⟩ => ⟨S49664x1, .f32⟩
  | .hbm, ⟨13, _⟩ => ⟨S49664x1, .f32⟩
  | .hbm, ⟨14, _⟩ => ⟨S49664x1024, .f32⟩
  | .hbm, ⟨15, _⟩ => ⟨S49664x1024, .f32⟩
  | .hbm, ⟨16, _⟩ => ⟨S1x1024, .f32⟩
  | .hbm, ⟨17, _⟩ => ⟨S49664x1024, .f32⟩
  | .hbm, ⟨18, _⟩ => ⟨S49664x1024, .f32⟩
  | .hbm, ⟨19, _⟩ => ⟨S49664x3072, .f32⟩
  | .hbm, ⟨20, _⟩ => ⟨S49664x1024, .f32⟩
  | .hbm, ⟨21, _⟩ => ⟨S49664x1024, .f32⟩
  | .hbm, ⟨22, _⟩ => ⟨S49664x1024, .f32⟩
  | .hbm, ⟨23, _⟩ => ⟨S49664x1024, .f32⟩
  | _, _ => ⟨S49664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x16384x1024 : Shape := ⟨3, ![2, 16384, 1024]⟩
abbrev S16x1024 : Shape := ⟨2, ![16, 1024]⟩
abbrev S1024 : Shape := ⟨1, ![1024]⟩
abbrev S1024x2816 : Shape := ⟨2, ![1024, 2816]⟩
abbrev S2816x1024 : Shape := ⟨2, ![2816, 1024]⟩
abbrev S97 : Shape := ⟨1, ![97]⟩
abbrev S16384x1024 : Shape := ⟨2, ![16384, 1024]⟩
abbrev S32768x1024 : Shape := ⟨2, ![32768, 1024]⟩
abbrev S1x1024 : Shape := ⟨2, ![1, 1024]⟩
abbrev S49664x1024 : Shape := ⟨2, ![49664, 1024]⟩
abbrev S512x1024 : Shape := ⟨2, ![512, 1024]⟩
abbrev S1 : Shape := ⟨1, ![1]⟩
abbrev S2x1024x1024 : Shape := ⟨3, ![2, 1024, 1024]⟩
abbrev S1x512x1024 : Shape := ⟨3, ![1, 512, 1024]⟩
abbrev S512x1 : Shape := ⟨2, ![512, 1]⟩
abbrev S512 : Shape := ⟨1, ![512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 18
  | .smem => 10
  | _ => 0

abbrev bufTy : (tb : Table) → Fin (tcTables nBuf tb) → BufTy
  | .hbm, ⟨0, _⟩ => ⟨S8x2048x1024, .f32⟩
  | .hbm, ⟨1, _⟩ => ⟨S2x16384x1024, .f32⟩
  | .hbm, ⟨2, _⟩ => ⟨S16x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S32768x1024, .f32⟩
  | .hbm, ⟨10, _⟩ => ⟨S1x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S49664x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S2x1024x1024, .f32⟩
  | .local _ .vmem, ⟨17, _⟩ => ⟨S512x1024, .f32⟩
  | .local _ .smem, ⟨0, _⟩ => ⟨S97, .i32⟩
  | .local _ .smem, ⟨1, _⟩ => ⟨S97, .i32⟩
  | .local _ .smem, ⟨2, _⟩ => ⟨S97, .i32⟩
  | .local _ .smem, ⟨3, _⟩ => ⟨S97, .i32⟩
  | .local _ .smem, ⟨4, _⟩ => ⟨S97, .i32⟩
  | .local _ .smem, ⟨5, _⟩ => ⟨S97, .i32⟩
  | .local _ .smem, ⟨6, _⟩ => ⟨S97, .i32⟩
  | .local _ .smem, ⟨7, _⟩ => ⟨S97, .i32⟩
  | .local _ .smem, ⟨8, _⟩ => ⟨S97, .i32⟩
  | .local _ .smem, ⟨9, _⟩ => ⟨S97, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev main_c_4 : Ref sig .tc := ⟨.smem, 5, rfl⟩
abbrev main_c_5 : Ref sig .tc := ⟨.smem, 6, rfl⟩
abbrev main_c_6 : Ref sig .tc := ⟨.smem, 7, rfl⟩
abbrev main_c_7 : Ref sig .tc := ⟨.smem, 8, rfl⟩
abbrev main_c_8 : Ref sig .tc := ⟨.smem, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![97], ![false]⟩

abbrev pre0 : Pipeline.Prefetch sig := ⟨10, ![main_c.idx, main_c_0.idx, main_c_1.idx, main_c_2.idx, main_c_3.idx, main_c_4.idx, main_c_5.idx, main_c_6.idx, main_c_7.idx, main_c_8.idx], fun | 0 => main_c.names | 1 => main_c_0.names | 2 => main_c_1.names | 3 => main_c_2.names | 4 => main_c_3.names | 5 => main_c_4.names | 6 => main_c_5.names | 7 => main_c_6.names | 8 => main_c_7.names | 9 => main_c_8.names | ⟨_ + 10, h⟩ => absurd h (Nat.not_lt.2 (Nat.le_add_left _ _)), fun | 0 => rfl | 1 => rfl | 2 => rfl | 3 => rfl | 4 => rfl | 5 => rfl | 6 => rfl | 7 => rfl | 8 => rfl | 9 => rfl | ⟨_ + 10, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v11 : Index := Scalar.indexCast arg0
  ![v11.toNat]
def k0_mult1 (v18 : BitVec 32) : BitVec 32 :=
  v18

def k0_off4 (v16 : BitVec 32) (v18 : BitVec 32) : Fin 3 → Nat :=
  let v20 : Index := Scalar.indexCast v16
  let v19 : BitVec 32 := v18
  let v21 : Index := Scalar.indexCast v19
  let c0 : Index := 0#32
  ![v20.toNat, v21.toNat, 0]

def k0_chk1 (v16 : BitVec 32) (v18 : BitVec 32) : Prop :=
  (16 ∣ (k0_mult1 v18).toNat) ∧
  (∀ a, (k0_off4 v16 v18) a + S1x512x1024.size a ≤ S2x1024x1024.size a)
theorem k0_mult1_dvd : ∀ (v16 : BitVec 32) (v18 : BitVec 32) (k0_hw1 : k0_chk1 v16 v18), 16 ∣ (k0_mult1 v18).toNat := fun v16 v18 k0_hw1 => k0_hw1.1
theorem k0_off4_inb : ∀ (v16 : BitVec 32) (v18 : BitVec 32) (k0_hw1 : k0_chk1 v16 v18), ∀ a, (k0_off4 v16 v18) a + S1x512x1024.size a ≤ S2x1024x1024.size a := fun v16 v18 k0_hw1 => k0_hw1.2

def k0_off5 (i : grid0.Coords) : Fin 1 → Nat :=
  let arg0 : BitVec 32 := BitVec.ofNat 32 (i 0).val
  let v24 : Index := Scalar.indexCast arg0
  ![v24.toNat]
def k0_mult2 (v27 : BitVec 32) : BitVec 32 :=
  v27

def k0_off6 (v25 : BitVec 32) (v27 : BitVec 32) : Fin 3 → Nat :=
  let v29 : Index := Scalar.indexCast v25
  let v28 : BitVec 32 := v27
  let v30 : Index := Scalar.indexCast v28
  let c0_2 : Index := 0#32
  ![v29.toNat, v30.toNat, 0]

def k0_chk2 (v25 : BitVec 32) (v27 : BitVec 32) : Prop :=
  (16 ∣ (k0_mult2 v27).toNat) ∧
  (∀ a, (k0_off6 v25 v27) a + S1x512x1024.size a ≤ S2x1024x1024.size a)
theorem k0_mult2_dvd : ∀ (v25 : BitVec 32) (v27 : BitVec 32) (k0_hw2 : k0_chk2 v25 v27), 16 ∣ (k0_mult2 v27).toNat := fun v25 v27 k0_hw2 => k0_hw2.1
theorem k0_off6_inb : ∀ (v25 : BitVec 32) (v27 : BitVec 32) (k0_hw2 : k0_chk2 v25 v27), ∀ a, (k0_off6 v25 v27) a + S1x512x1024.size a ≤ S2x1024x1024.size a := fun v25 v27 k0_hw2 => k0_hw2.2

def k0_off7 (i : grid0.Coords) : Fin 1 → Nat :=
  let arg0 : BitVec 32 := BitVec.ofNat 32 (i 0).val
  let v36 : Index := Scalar.indexCast arg0
  ![v36.toNat]
def k0_off8 (i : grid0.Coords) : Fin 1 → Nat :=
  let arg0 : BitVec 32 := BitVec.ofNat 32 (i 0).val
  let v284 : Index := Scalar.indexCast arg0
  ![v284.toNat]
def k0_mult3 (v285 : BitVec 32) : BitVec 32 :=
  v285
def k0_cond3 (v48 : BitVec 32) : BitVec 1 :=
  let c512_i32 : BitVec 32 := 512#32
  let v49 : BitVec 1 := Scalar.cmpi .slt v48 c512_i32
  let v50 : BitVec 32 := Scalar.extui v49
  let c0_i32_5 : BitVec 32 := 0#32
  let v51 : BitVec 1 := Scalar.cmpi .ne v50 c0_i32_5
  v51

def k0_off9 (v285 : BitVec 32) : Fin 2 → Nat :=
  let v286 : BitVec 32 := v285
  let v287 : Index := Scalar.indexCast v286
  let c0_134 : Index := 0#32
  ![v287.toNat, 0]

def k0_chk3 (v48 : BitVec 32) (v285 : BitVec 32) : Prop :=
  (∀ (k0_h3 : k0_cond3 v48 = 1#1), 16 ∣ (k0_mult3 v285).toNat) ∧
  (∀ (k0_h3 : k0_cond3 v48 = 1#1), ∀ a, (k0_off9 v285) a + S16x1024.size a ≤ S512x1024.size a)
theorem k0_mult3_dvd : ∀ (v48 : BitVec 32) (v285 : BitVec 32) (k0_hw3 : k0_chk3 v48 v285), ∀ (k0_h3 : k0_cond3 v48 = 1#1), 16 ∣ (k0_mult3 v285).toNat := fun v48 v285 k0_hw3 k0_h3 => k0_hw3.1 k0_h3
theorem k0_off9_inb : ∀ (v48 : BitVec 32) (v285 : BitVec 32) (k0_hw3 : k0_chk3 v48 v285), ∀ (k0_h3 : k0_cond3 v48 = 1#1), ∀ a, (k0_off9 v285) a + S16x1024.size a ≤ S512x1024.size a := fun v48 v285 k0_hw3 k0_h3 => k0_hw3.2 k0_h3

def cc0_transform_0 (k0_off1_inb : ∀ i : grid0.Coords, ∀ a, (k0_off1 i) a + S1.size a ≤ S97.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let v2 : BitVec 32 := Scalar.addi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

def cc0_transform_1 (k0_off1_inb : ∀ i : grid0.Coords, ∀ a, (k0_off1 i) a + S1.size a ≤ S97.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c1_i32 : BitVec 32 := 1#32
  let v2 : BitVec 32 := Scalar.addi v1 c1_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

def cc0_transform_2 (k0_off1_inb : ∀ i : grid0.Coords, ∀ a, (k0_off1 i) a + S1.size a ≤ S97.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S97) ![v0.toNat] S1.size (k0_off1_inb i)) numel1_S1
  let c0_i32 : BitVec 32 := 0#32
  let v2 : BitVec 32 := Scalar.addi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  ![v4.toNat, c0_i32_1.toNat]

def cc0_transform_3 (k0_off1_inb : ∀ i : grid0.Coords, ∀ a, (k0_off1 i) a + S1.size a ≤ S97.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S97) ![v0.toNat] S1.size (k0_off1_inb i)) numel1_S1
  let c1_i32 : BitVec 32 := 1#32
  let v2 : BitVec 32 := Scalar.addi v1 c1_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel4Ideal.lean ====
variable {F : FTy → Type} [FloatOps F] [Named F]
def κ : String → Option EReal := fun
  | "neg_log2e" => some ((-((Real.log 2)⁻¹) : ℝ) : EReal)
  | _ => none
-- ==== Reference4Ideal.lean ====
abbrev S8x2048x1024 : Shape := ⟨3, ![8, 2048, 1024]⟩
abbrev S2x16384x1024 : Shape := ⟨3, ![2, 16384, 1024]⟩
abbrev S16x1024 : Shape := ⟨2, ![16, 1024]⟩
abbrev S1024 : Shape := ⟨1, ![1024]⟩
abbrev S1024x2816 : Shape := ⟨2, ![1024, 2816]⟩
abbrev S2816x1024 : Shape := ⟨2, ![2816, 1024]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S16512x1024 : Shape := ⟨2, ![16512, 1024]⟩
abbrev S2x16x1024 : Shape := ⟨3, ![2, 16, 1024]⟩
abbrev S2x16400x1024 : Shape := ⟨3, ![2, 16400, 1024]⟩
abbrev S32800x1024 : Shape := ⟨2, ![32800, 1024]⟩
abbrev S49312x1024 : Shape := ⟨2, ![49312, 1024]⟩
abbrev S_ : Shape := ⟨0, ![]⟩
abbrev S49664x1024 : Shape := ⟨2, ![49664, 1024]⟩
abbrev S49664 : Shape := ⟨1, ![49664]⟩
abbrev S49664x1 : Shape := ⟨2, ![49664, 1]⟩
abbrev S1x1024 : Shape := ⟨2, ![1, 1024]⟩
abbrev S49664x2816 : Shape := ⟨2, ![49664, 2816]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x16384x1024, .f32⟩
  | .hbm, ⟨2, _⟩ => ⟨S16x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x16x1024, .f32⟩
  | .hbm, ⟨9, _⟩ => ⟨S8x16x1024, .f32⟩
  | .hbm, ⟨10, _⟩ => ⟨S8x2064x1024, .f32⟩
  | .hbm, ⟨11, _⟩ => ⟨S16512x1024, .f32⟩
  | .hbm, ⟨12, _⟩ => ⟨S1x16x1024, .f32⟩
  | .hbm, ⟨13, _⟩ => ⟨S2x16x1024, .f32⟩
  | .hbm, ⟨14, _⟩ => ⟨S2x16400x1024, .f32⟩
  | .hbm, ⟨15, _⟩ => ⟨S32800x1024, .f32⟩
  | .hbm, ⟨16, _⟩ => ⟨S49312x1024, .f32⟩
  | .hbm, ⟨17, _⟩ => ⟨S_, .i32⟩
  | .hbm, ⟨18, _⟩ => ⟨S_, .f32⟩
  | .hbm, ⟨19, _⟩ => ⟨S49664x1024, .f32⟩
  | .hbm, ⟨20, _⟩ => ⟨S49664x1024, .f32⟩
  | .hbm, ⟨21, _⟩ => ⟨S_, .f32⟩
  | .hbm, ⟨22, _⟩ => ⟨S49664, .f32⟩
  | .hbm, ⟨23, _⟩ => ⟨S49664x1, .f32⟩
  | .hbm, ⟨24, _⟩ => ⟨S_, .f32⟩
  | .hbm, ⟨25, _⟩ => ⟨S49664x1, .f32⟩
  | .hbm, ⟨26, _⟩ => ⟨S49664x1, .f32⟩
  | .hbm, ⟨27, _⟩ => ⟨S_, .f32⟩
  | .hbm, ⟨28, _⟩ => ⟨S49664x1, .f32⟩
  | .hbm, ⟨29, _⟩ => ⟨S49664x1, .f32⟩
  | .hbm, ⟨30, _⟩ => ⟨S49664x1, .f32⟩
  | .hbm, ⟨31, _⟩ => ⟨S49664x1024, .f32⟩
  | .hbm, ⟨32, _⟩ => ⟨S49664x1024, .f32⟩
  | .hbm, ⟨33, _⟩ => ⟨S1x1024, .f32⟩
  | .hbm, ⟨34, _⟩ => ⟨S49664x1024, .f32⟩
  | .hbm, ⟨35, _⟩ => ⟨S49664x1024, .f32⟩
  | .hbm, ⟨36, _⟩ => ⟨S49664x2816, .f32⟩
  | .hbm, ⟨37, _⟩ => ⟨S49664x2816, .f32⟩
  | .hbm, ⟨38, _⟩ => ⟨S49664x2816, .f32⟩
  | .hbm, ⟨39, _⟩ => ⟨S_, .f32⟩
  | .hbm, ⟨40, _⟩ => ⟨S49664x2816, .f32⟩
  | .hbm, ⟨41, _⟩ => ⟨S49664x2816, .f32⟩
  | .hbm, ⟨42, _⟩ => ⟨S_, .f32⟩
  | .hbm, ⟨43, _⟩ => ⟨S49664x2816, .f32⟩
  | .hbm, ⟨44, _⟩ => ⟨S49664x2816, .f32⟩
  | .hbm, ⟨45, _⟩ => ⟨S49664x2816, .f32⟩
  | .hbm, ⟨46, _⟩ => ⟨S49664x2816, .f32⟩
  | .hbm, ⟨47, _⟩ => ⟨S49664x2816, .f32⟩
  | .hbm, ⟨48, _⟩ => ⟨S49664x1024, .f32⟩
  | .hbm, ⟨49, _⟩ => ⟨S49664x1024, .f32⟩
  | .hbm, ⟨50, _⟩ => ⟨S_, .f32⟩
  | .hbm, ⟨51, _⟩ => ⟨S49664, .f32⟩
  | .hbm, ⟨52, _⟩ => ⟨S49664x1, .f32⟩
  | .hbm, ⟨53, _⟩ => ⟨S_, .f32⟩
  | .hbm, ⟨54, _⟩ => ⟨S49664x1, .f32⟩
  | .hbm, ⟨55, _⟩ => ⟨S49664x1, .f32⟩
  | .hbm, ⟨56, _⟩ => ⟨S_, .f32⟩
  | .hbm, ⟨57, _⟩ => ⟨S49664x1, .f32⟩
  | .hbm, ⟨58, _⟩ => ⟨S49664x1, .f32⟩
  | .hbm, ⟨59, _⟩ => ⟨S49664x1, .f32⟩
  | .hbm, ⟨60, _⟩ => ⟨S49664x1024, .f32⟩
  | .hbm, ⟨61, _⟩ => ⟨S49664x1024, .f32⟩
  | .hbm, ⟨62, _⟩ => ⟨S1x1024, .f32⟩
  | .hbm, ⟨63, _⟩ => ⟨S49664x1024, .f32⟩
  | .hbm, ⟨64, _⟩ => ⟨S49664x1024, .f32⟩
  | .hbm, ⟨65, _⟩ => ⟨S_, .f32⟩
  | .hbm, ⟨66, _⟩ => ⟨S49664x1024, .f32⟩
  | .hbm, ⟨67, _⟩ => ⟨S49664x1024, .f32⟩
  | .hbm, ⟨68, _⟩ => ⟨S49664x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Proof.RowMath.lean ====
/- The mathematics of one row of a feed-forward half step, over the extended reals: the RMS normalisation, the gated
   activation `x / (1 + e^(-x))`, the gated product with its down projection, and two facts about them — the activation
   the kernel computes through a power of two is the one the reference computes through the exponential, and a sum over
   2816 columns is the sum of eleven sums over 256. -/
module

public import Idealize.ShloMosaic.PureOps.Ideal
public import Idealize.ShloMosaic.Lib.IdealHost
public import Idealize.ShloMosaic.Lib.Pointwise

@[expose] public section

noncomputable section

namespace Cert.RowMath

open Idealize.ShloMosaic

/-- A row's RMS normalisation times its gain, at coordinate `k`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The activation, as the reference writes it: `x` times the logistic function of `x`. -/
def silu (x : EReal) : EReal := x * Ideal.div 1 (1 + Ideal.exp (-x))

/-- The gated hidden coordinate `j`: the activated gate projection times the up projection. -/
def hid (y : Fin 1024 → EReal) (wg wu : Fin 1024 → Fin 2816 → EReal) (j : Fin 2816) : EReal :=
  silu (∑ k, y k * wg k j) * ∑ k, y k * wu k j

/-- The gated product projected down to coordinate `c`. -/
def glu (y : Fin 1024 → EReal) (wg wu : Fin 1024 → Fin 2816 → EReal) (wd : Fin 2816 → Fin 1024 → EReal)
    (c : Fin 1024) : EReal :=
  ∑ j, hid y wg wu j * wd j c

/-- A feed-forward half step of one row: the row plus half of the normalised feed-forward of its normalisation. -/
def half (x g₁ g₂ : Fin 1024 → EReal) (wg wu : Fin 1024 → Fin 2816 → EReal) (wd : Fin 2816 → Fin 1024 → EReal)
    (c : Fin 1024) : EReal :=
  x c + Ideal.ofBits .f32 0x3F000000#32 * rms (glu (rms x g₁) wg wu wd) g₂ c

/-- The kernel's activation — `x` divided by one plus a power of two whose exponent is `x` times minus the reciprocal
    of the natural logarithm of two — is the reference's, at every extended real. -/
theorem silu_of_exp2 (x : EReal) :
    Ideal.div x (1 + Ideal.exp2 (x * ((-((Real.log 2)⁻¹) : ℝ) : EReal))) = silu x := by
  have hl : (0 : ℝ) < (Real.log 2)⁻¹ := inv_pos.mpr (Real.log_pos (by norm_num))
  have hneg : (-((Real.log 2)⁻¹) : ℝ) < 0 := by linarith
  unfold silu
  induction x using EReal.rec with
  | bot =>
    have e1 : Ideal.exp2 ⊤ = ⊤ := rfl
    have e2 : Ideal.exp ⊤ = ⊤ := rfl
    have h1 : (1 : EReal) + ⊤ = ⊤ := rfl
    rw [EReal.bot_mul_coe_of_neg hneg, EReal.neg_bot, e1, e2, h1]
    simp [Ideal.div]
  | top =>
    have e1 : Ideal.exp2 ⊥ = 0 := rfl
    have e2 : Ideal.exp ⊥ = 0 := rfl
    rw [EReal.top_mul_coe_of_neg hneg, EReal.neg_top, e1, e2]
    simp [Ideal.div]
  | coe r =>
    have hpow : Real.rpow 2 (r * -((Real.log 2)⁻¹)) = Real.exp (-r) := by
      show (2 : ℝ) ^ (r * -((Real.log 2)⁻¹)) = _
      rw [Real.rpow_def_of_pos (by norm_num)]
      congr 1
      have : Real.log 2 ≠ 0 := (Real.log_pos (by norm_num)).ne'
      field_simp
    have hpos : (0 : ℝ) < 1 + Real.exp (-r) := by positivity
    have e1 : Ideal.exp2 ((r : EReal) * ((-((Real.log 2)⁻¹) : ℝ) : EReal)) = ((Real.exp (-r) : ℝ) : EReal) := by
      rw [← EReal.coe_mul]
      show ((Real.rpow 2 (r * -((Real.log 2)⁻¹)) : ℝ) : EReal) = _
      rw [hpow]
    have e2 : Ideal.exp (-(r : EReal)) = ((Real.exp (-r) : ℝ) : EReal) := by
      rw [← EReal.coe_neg]; rfl
    rw [e1, e2]
    have hne : (1 : EReal) + ((Real.exp (-r) : ℝ) : EReal) ≠ 0 := by
      rw [← EReal.coe_one, ← EReal.coe_add]
      exact fun h => hpos.ne' (EReal.coe_eq_zero.mp h)
    simp only [Ideal.div, if_neg hne, one_mul]

/-- A sum over 2816 coordinates is the sum, over eleven runs of 256, of the run's sum. -/
theorem sum_runs (f : Fin 2816 → EReal) :
    ∑ j, f j = ∑ n : Fin 11, ∑ j : Fin 256, f ⟨256 * n.val + j.val, by omega⟩ := by
  rw [← Finset.sum_product', Finset.univ_product_univ,
    ← (finProdFinEquiv (m := 11) (n := 256)).sum_comp (fun j : Fin (11 * 256) => f j)]
  refine Finset.sum_congr rfl fun p _ => congrArg f (Fin.ext ?_)
  show p.2.val + 256 * p.1.val = 256 * p.1.val + p.2.val
  omega

/-- The same sum with the runs added one after the other, first to last. -/
theorem sum_eleven (f : Fin 2816 → EReal) (g : (n : Nat) → n < 11 → EReal)
    (h : ∀ n hn, g n hn = ∑ j : Fin 256, f ⟨256 * n + j.val, by omega⟩) :
    g 0 (by decide) + g 1 (by decide) + g 2 (by decide) + g 3 (by decide) + g 4 (by decide) + g 5 (by decide)
      + g 6 (by decide) + g 7 (by decide) + g 8 (by decide) + g 9 (by decide) + g 10 (by decide) = ∑ j, f j := by
  rw [sum_runs, Finset.sum_congr rfl (g := fun n : Fin 11 => g n.val n.isLt) (fun n _ => (h n.val n.isLt).symm)]
  simp only [Fin.sum_univ_castSucc, Fin.sum_univ_zero, zero_add]
  rfl

end Cert.RowMath

end
-- ==== Proof.RowBlock.lean ====
/- One block of 512 rows of a feed-forward half step, as the kernels' bodies compute it on vectors — the normalisation, eleven
   runs of 256 hidden columns, each projected up, gated and projected down into the running sum, the second
   normalisation — and what it is worth at an index: the row's half step of `RowMath`. Stated once, over
   shapes of its own and, but for its worth, over any float values, for every call whose body has this text. -/
module

public import proofs.«01_k».proof.Proof.RowMath
public import Idealize.ShloMosaic.Lib.Pipeline.Value
public import Idealize.ShloMosaic.Lib.MatmulPlain
public import Idealize.ShloMosaic.Lib.Pointwise

@[expose] public section

set_option maxRecDepth 16384

noncomputable section

namespace Cert.RowBlock

open Idealize.ShloMosaic Cert.RowMath

variable {F : FTy → Type} [FloatOps F]

/-- A block of rows. -/
abbrev SX : Shape := ⟨2, ![512, 1024]⟩
/-- A gain vector. -/
abbrev SG : Shape := ⟨2, ![1, 1024]⟩
/-- One number per row, as a vector and as a column. -/
abbrev SR : Shape := ⟨1, ![512]⟩
abbrev SC : Shape := ⟨2, ![512, 1]⟩
/-- A run of hidden columns: of the block, of an up projection, of the down projection. -/
abbrev SH : Shape := ⟨2, ![512, 256]⟩
abbrev SU : Shape := ⟨2, ![1024, 256]⟩
abbrev SD : Shape := ⟨2, ![256, 1024]⟩
/-- The whole weights. -/
abbrev SWU : Shape := ⟨2, ![1024, 2816]⟩
abbrev SWD : Shape := ⟨2, ![2816, 1024]⟩

theorem red : SX.Reduces [1] SR := by decide
theorem col : SR.ShapeCasts SC := by decide
theorem castG : SG.ShapeCasts SG := by decide
theorem castU : SU.ShapeCasts SU := by decide
theorem castD : SD.ShapeCasts SD := by decide
theorem wide : SC.Broadcasts SX := by decide
theorem tall : SG.Broadcasts SX := by decide
theorem less : FTy.bits .bf16 < FTy.bits .f32 := by decide

/-- The normalisation of every row of a block. -/
def normB (x : FVec F SX .f32) (g : FVec F SG .f32) : FVec F SX .f32 :=
  mulf (mulf x (broadcastTo SX (rsqrt (addf (divf (shapeCast SC (multiReduction .add [1] SR (mulf x x) 0x00000000#32 red (.inl rfl) rfl) col)
    (broadcast SC (Scalar.ofBits .f32 0x44800000#32))) (broadcast SC (Scalar.ofBits .f32 0x358637BD#32)))) wide))
    (broadcastTo SX (shapeCast SG g castG) tall)

/-- A run of columns of an up projection. -/
def upB (y : FVec F SX .bf16) (w : FVec F SU .bf16) : FVec F SH .f32 :=
  matmul (DotDims.plain 512 1024 256) none y (shapeCast SU w castU) (constant SH .f32 0x00000000#32)

/-- The gated activation of a run of columns, `k` being the constant of the power of two. -/
def actB (k : F .f32) (a b : FVec F SH .f32) : FVec F SH .bf16 :=
  truncf .bf16 (mulf (divf a (addf (broadcast SH (Scalar.ofBits .f32 0x3F800000#32)) (exp2 (mulf a (broadcast SH k))))) b) less

/-- What a run of hidden columns adds to the block. -/
def runB (k : F .f32) (y : FVec F SX .bf16) (wg wu : FVec F SU .bf16) (wd : FVec F SD .bf16) :
    FVec F SX .f32 :=
  matmul (DotDims.plain 512 256 1024) none (actB k (upB y wg) (upB y wu)) (shapeCast SD wd castD) (constant SX .f32 0x00000000#32)

theorem inbU (o : Nat) (h : o + 256 ≤ 2816) : ∀ a, (![0, o] : Fin 2 → Nat) a + SU.size a ≤ SWU.size a := by
  intro a; fin_cases a
  · show 0 + 1024 ≤ 1024; omega
  · exact h

theorem inbD (o : Nat) (h : o + 256 ≤ 2816) : ∀ a, (![o, 0] : Fin 2 → Nat) a + SD.size a ≤ SWD.size a := by
  intro a; fin_cases a
  · exact h
  · show 0 + 1024 ≤ 1024; omega

/-- Columns `o` to `o + 255` of an up weight. -/
def ldU (W : FVec F SWU .bf16) (o : Nat) (h : o + 256 ≤ 2816) : FVec F SU .bf16 :=
  View.ld (Val := Elt F) (e' := .bf16) W (Rect.unit (s := SWU) ![0, o] SU.size (inbU o h))
/-- Rows `o` to `o + 255` of the down weight. -/
def ldD (W : FVec F SWD .bf16) (o : Nat) (h : o + 256 ≤ 2816) : FVec F SD .bf16 :=
  View.ld (Val := Elt F) (e' := .bf16) W (Rect.unit (s := SWD) ![o, 0] SD.size (inbD o h))

/-- The addend of run `o`, from the whole weights. -/
abbrev atB (k : F .f32) (y : FVec F SX .bf16) (wg wu : FVec F SWU .bf16) (wd : FVec F SWD .bf16)
    (o : Nat) (h : o + 256 ≤ 2816) : FVec F SX .f32 :=
  runB k y (ldU wg o h) (ldU wu o h) (ldD wd o h)

/-- The half step of a block of rows, the eleven runs added one after the other. -/
def halfB (k : F .f32) (x : FVec F SX .f32) (g₁ g₂ : FVec F SG .f32) (wg wu : FVec F SWU .bf16)
    (wd : FVec F SWD .bf16) : FVec F SX .f32 :=
  addf x (mulf (broadcast SX (Scalar.ofBits .f32 0x3F000000#32)) (normB
    (addf (addf (addf (addf (addf (addf (addf (addf (addf (addf
      (atB k (truncf .bf16 (normB x g₁) less) wg wu wd 0 (by decide))
      (atB k (truncf .bf16 (normB x g₁) less) wg wu wd 256 (by decide)))
      (atB k (truncf .bf16 (normB x g₁) less) wg wu wd 512 (by decide)))
      (atB k (truncf .bf16 (normB x g₁) less) wg wu wd 768 (by decide)))
      (atB k (truncf .bf16 (normB x g₁) less) wg wu wd 1024 (by decide)))
      (atB k (truncf .bf16 (normB x g₁) less) wg wu wd 1280 (by decide)))
      (atB k (truncf .bf16 (normB x g₁) less) wg wu wd 1536 (by decide)))
      (atB k (truncf .bf16 (normB x g₁) less) wg wu wd 1792 (by decide)))
      (atB k (truncf .bf16 (normB x g₁) less) wg wu wd 2048 (by decide)))
      (atB k (truncf .bf16 (normB x g₁) less) wg wu wd 2304 (by decide)))
      (atB k (truncf .bf16 (normB x g₁) less) wg wu wd 2560 (by decide))) g₂))

/-- A block's normalisation at an index is the row's. -/
theorem normB_apply (x : FVec Ideal SX .f32) (g : FVec Ideal SG .f32) (r : Fin 512) (c : Fin 1024) :
    normB x g (ix2 r c) = rms (fun k => x (ix2 r k)) (fun k => g (ix2 0 k)) c := by
  unfold normB rms
  pointwise

theorem ldU_apply (W : FVec Ideal SWU .bf16) (o : Nat) (h : o + 256 ≤ 2816) (k : Fin 1024) (j : Fin 256) :
    ldU W o h (ix2 k j) = W (ix2 k ⟨o + j.val, by omega⟩) := by
  unfold ldU
  pointwise

theorem ldD_apply (W : FVec Ideal SWD .bf16) (o : Nat) (h : o + 256 ≤ 2816) (j : Fin 256) (c : Fin 1024) :
    ldD W o h (ix2 j c) = W (ix2 ⟨o + j.val, by omega⟩ c) := by
  unfold ldD
  pointwise

/-- What a run of hidden columns adds, at an index. -/
theorem atB_apply (y : FVec Ideal SX .bf16) (wg wu : FVec Ideal SWU .bf16) (wd : FVec Ideal SWD .bf16)
    (o : Nat) (h : o + 256 ≤ 2816) (r : Fin 512) (c : Fin 1024) :
    atB ((-((Real.log 2)⁻¹) : ℝ) : EReal) y wg wu wd o h (ix2 r c)
      = ∑ j : Fin 256, hid (fun k => y (ix2 r k)) (fun k j => wg (ix2 k j)) (fun k j => wu (ix2 k j)) ⟨o + j.val, by omega⟩
          * wd (ix2 ⟨o + j.val, by omega⟩ c) := by
  unfold atB runB actB upB hid
  pointwise
  refine Finset.sum_congr rfl fun j _ => ?_
  rw [ldD_apply]
  simp only [ldU_apply]
  exact congrArg (fun z => z * _ * _) (silu_of_exp2 _)

/-- THE BLOCK'S HALF STEP at an index is the row's half step. -/
theorem halfB_apply (x : FVec Ideal SX .f32) (g₁ g₂ : FVec Ideal SG .f32) (wg wu : FVec Ideal SWU .bf16)
    (wd : FVec Ideal SWD .bf16) (r : Fin 512) (c : Fin 1024) :
    halfB ((-((Real.log 2)⁻¹) : ℝ) : EReal) x g₁ g₂ wg wu wd (ix2 r c)
      = half (fun k => x (ix2 r k)) (fun k => g₁ (ix2 0 k)) (fun k => g₂ (ix2 0 k)) (fun k j => wg (ix2 k j))
          (fun k j => wu (ix2 k j)) (fun j c => wd (ix2 j c)) c := by
  unfold halfB half
  pointwise [normB_apply]
  refine congrArg (fun z => x (ix2 r c) + Ideal.ofBits .f32 0x3F000000#32 * rms z (fun k => g₂ (ix2 0 k)) c) ?_
  funext c'
  simp only [atB_apply]
  have hy : (fun k => truncf FTy.bf16 (normB x g₁) less (ix2 r k)) = rms (fun k => x (ix2 r k)) (fun k => g₁ (ix2 0 k)) :=
    funext fun k => normB_apply x g₁ r k
  rw [hy]
  exact sum_eleven (fun j => hid (rms (fun k => x (ix2 r k)) (fun k => g₁ (ix2 0 k))) (fun k j => wg (ix2 k j))
      (fun k j => wu (ix2 k j)) j * wd (ix2 j c'))
    (fun n hn => ∑ j : Fin 256, hid (rms (fun k => x (ix2 r k)) (fun k => g₁ (ix2 0 k))) (fun k j => wg (ix2 k j))
      (fun k j => wu (ix2 k j)) ⟨256 * n + j.val, by omega⟩ * wd (ix2 ⟨256 * n + j.val, by omega⟩ c')) (fun _ _ => rfl)

/-- The half step of a block of rows, normalised once more. -/
def endB (k : F .f32) (x : FVec F SX .f32) (g₁ g₂ : FVec F SG .f32) (wg wu : FVec F SWU .bf16)
    (wd : FVec F SWD .bf16) (g₃ : FVec F SG .f32) : FVec F SX .f32 :=
  normB (halfB k x g₁ g₂ wg wu wd) g₃

theorem endB_apply (x : FVec Ideal SX .f32) (g₁ g₂ : FVec Ideal SG .f32) (wg wu : FVec Ideal SWU .bf16)
    (wd : FVec Ideal SWD .bf16) (g₃ : FVec Ideal SG .f32) (r : Fin 512) (c : Fin 1024) :
    endB ((-((Real.log 2)⁻¹) : ℝ) : EReal) x g₁ g₂ wg wu wd g₃ (ix2 r c)
      = rms (half (fun k => x (ix2 r k)) (fun k => g₁ (ix2 0 k)) (fun k => g₂ (ix2 0 k)) (fun k j => wg (ix2 k j))
          (fun k j => wu (ix2 k j)) (fun j c => wd (ix2 j c))) (fun k => g₃ (ix2 0 k)) c := by
  unfold endB
  rw [normB_apply]
  simp only [halfB_apply]

end Cert.RowBlock

end
-- ==== Proof.WordTile.lean ====
/- At the machine's words: one tile of the last feed-forward call: the body on its staging memrefs, a prompt tile storing the first result's block
   and a sample tile the second's, the other block left as it was. -/
module

public import proofs.«01_k».proof.Proof.RowBlock
public import proofs.«01_k».proof.Proof.Gen.Kernel.Launch
public import proofs.«01_k».proof.Proof.Gen.Kernel.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Word

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

open Cert.RowBlock

/-- A block's whole rectangle, and a gain row's. -/
abbrev rX : Rect S512x1024 := Rect.unit (s := S512x1024) ![0, 0] S512x1024.size inb_S512x1024_S512x1024_0_0
abbrev rG : Rect S1x1024 := Rect.unit (s := S1x1024) ![0, 0] S1x1024.size inb_S1x1024_S1x1024_0_0

/-- A store through the whole rectangle leaves nothing of the block out. -/
theorem cover (p : Vec F S512x1024 .f32) (y : S512x1024.Idx) :
    ∃ pc ∈ ([⟨rX, p⟩] : List (View.Piece (Elt F) S512x1024 .f32)), y ∈ pc.1.set :=
  View.cover_of_tiled [⟨rX, p⟩] S512x1024.size (by rfl) y

/-- What the body computes from its loads of whole blocks is what it computes from the blocks. -/
theorem whole_loads (x0 : Vec F S512x1024 .f32) (x1 x2 : Vec F S1x1024 .f32) (x3 x4 : Vec F S1024x2816 .bf16)
    (x5 : Vec F S2816x1024 .bf16) (x6 : Vec F S1x1024 .f32) :
    endB (Scalar.ofBits .f32 0xBFB8AA3B#32) (View.ld x0 rX) (View.ld x1 rG) (View.ld x2 rG) x3 x4 x5 (View.ld x6 rG)
      = endB (Scalar.ofBits .f32 0xBFB8AA3B#32) x0 x1 x2 x3 x4 x5 x6 := by
  rw [View.ld_unit_lit _ x0 (by decide), View.ld_unit_lit _ x1 (by decide), View.ld_unit_lit _ x2 (by decide), View.ld_unit_lit _ x6 (by decide)]

set_option maxHeartbeats 1000000 in
/-- A prompt tile stores the normalised half step of its rows to the first result. -/
theorem tile_prompt (c : Dev nD) (i : grid0.Coords) (at0 : Memref sig .tc .smem S96 .i32) (ht0 : at0.IsWhole) (a0 : Memref sig .tc .vmem S512x1024 .f32) (h0 : a0.IsWhole) (a1 : Memref sig .tc .vmem S1x1024 .f32) (h1 : a1.IsWhole) (a2 : Memref sig .tc .vmem S1x1024 .f32) (h2 : a2.IsWhole) (a3 : Memref sig .tc .vmem S1024x2816 .bf16) (h3 : a3.IsWhole) (a4 : Memref sig .tc .vmem S1024x2816 .bf16) (h4 : a4.IsWhole) (a5 : Memref sig .tc .vmem S2816x1024 .bf16) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole)
    (hc0 : k0_cond1 i = 1#1) (hc1 : ¬k0_cond2 i = 1#1) (x0 : Vec F S512x1024 .f32) (x1 : Vec F S1x1024 .f32) (x2 : Vec F S1x1024 .f32) (x3 : Vec F S1024x2816 .bf16) (x4 : Vec F S1024x2816 .bf16) (x5 : Vec F S2816x1024 .bf16) (x6 : Vec F S1x1024 .f32) (y : Vec F S512x1024 .f32) (T : sProp 𝕄) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ owns (c : Thread nD τ) a8 fullShare y ∗ T
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (endB (Scalar.ofBits .f32 0xBFB8AA3B#32) x0 x1 x2 x3 x4 x5 x6) ∗ owns (c : Thread nD τ) a8 fullShare y ∗ T) -∗ K ⟨⟩))
      ⊢ wp frame (wpE (defs₀ (F := F)) Variants.none c none) Set.univ (cc0_ffn_last i at0 ht0 a0 h0 a1 h1 a2 h2 a3 h3 a4 h4 a5 h5 a6 h6 a7 h7 a8 h8) K := by
  simp only [cc0_ffn_last_eq_skeleton]; unfold cc0_ffn_last_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, HT, Hk⟩
  subst hf0 hf1 hf2 hf3 hf4 hf5 hf6 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover _)).trans ?_
    exact (View.canon_cons_unit_lit _ _ _ (by decide)).trans (whole_loads _ _ _ _ _ _ _)
  isplitl [H8]
  · iexists f8; isplitr; · ipureintro; rfl
    iexact H8
  iexact HT

set_option maxHeartbeats 1000000 in
/-- A sample tile stores the normalised half step of its rows to the second result. -/
theorem tile_sample (c : Dev nD) (i : grid0.Coords) (at0 : Memref sig .tc .smem S96 .i32) (ht0 : at0.IsWhole) (a0 : Memref sig .tc .vmem S512x1024 .f32) (h0 : a0.IsWhole) (a1 : Memref sig .tc .vmem S1x1024 .f32) (h1 : a1.IsWhole) (a2 : Memref sig .tc .vmem S1x1024 .f32) (h2 : a2.IsWhole) (a3 : Memref sig .tc .vmem S1024x2816 .bf16) (h3 : a3.IsWhole) (a4 : Memref sig .tc .vmem S1024x2816 .bf16) (h4 : a4.IsWhole) (a5 : Memref sig .tc .vmem S2816x1024 .bf16) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole)
    (hc0 : ¬k0_cond1 i = 1#1) (hc1 : k0_cond2 i = 1#1) (x0 : Vec F S512x1024 .f32) (x1 : Vec F S1x1024 .f32) (x2 : Vec F S1x1024 .f32) (x3 : Vec F S1024x2816 .bf16) (x4 : Vec F S1024x2816 .bf16) (x5 : Vec F S2816x1024 .bf16) (x6 : Vec F S1x1024 .f32) (y : Vec F S512x1024 .f32) (T : sProp 𝕄) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare y ∗ (∃ d, owns (c : Thread nD τ) a8 fullShare d) ∗ T
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare y ∗ owns (c : Thread nD τ) a8 fullShare (endB (Scalar.ofBits .f32 0xBFB8AA3B#32) x0 x1 x2 x3 x4 x5 x6) ∗ T) -∗ K ⟨⟩))
      ⊢ wp frame (wpE (defs₀ (F := F)) Variants.none c none) Set.univ (cc0_ffn_last i at0 ht0 a0 h0 a1 h1 a2 h2 a3 h3 a4 h4 a5 h5 a6 h6 a7 h7 a8 h8) K := by
  simp only [cc0_ffn_last_eq_skeleton]; unfold cc0_ffn_last_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover _)).trans ?_
    exact (View.canon_cons_unit_lit _ _ _ (by decide)).trans (whole_loads _ _ _ _ _ _ _)
  iexact HT

end Cert.Word

end
-- ==== Proof.RowStart.lean ====
/- The packed row every tile of the last feed-forward call begins at: 32 tiles of the eight prompts, four to a prompt, then
   64 tiles of the two samples, 32 to a sample; each sequence's first 16 rows are skipped. -/
module

@[expose] public section

/-- Tile `t`'s first packed row. -/
def Cert.rowStart (t : Nat) : Nat :=
  if t < 32 then 2064 * (t / 4) + 16 + 512 * (t % 4) else 16512 + 16400 * ((t - 32) / 32) + 16 + 512 * ((t - 32) % 32)

end
-- ==== Proof.Word.lean ====
/- The frame of the last feed-forward call at the machine's words. -/
module

public import proofs.«01_k».proof.Defs
public import proofs.«01_k».proof.Proof.WordRun
public import proofs.«01_k».proof.Proof.KernelTable

@[expose] public section

set_option maxRecDepth 16384

noncomputable section

namespace Cert.Word

open Cert.Kernel Cert.Kernel.Gen Idealize.ShloMosaic Idealize.ShloMosaic.TcCoe Idealize.SL.Sem

/-- The call runs and leaves its arguments and counters as they were. -/
theorem quiet : Cert.quiescent_Kernel := fun m g _ =>
  (θ_run (Cert.Kernel.defs (F := Bits)) _ _).mono (fun _ h => ⟨fun c =>
    ⟨((h.1 c).1 0).trans (((dats m (ok m) 0 c).arrAt_in 0 rfl _).trans ((A_eq m (ok m) c 0).trans (V_kept m c main_arg0 (by decide)))),
     ((h.1 c).2 main_arg1 (by decide : main_arg1 ∈ Pipeline.restRefs sig spec0)).trans (V_kept m c main_arg1 (by decide)),
     ((h.1 c).2 main_arg2 (by decide : main_arg2 ∈ Pipeline.restRefs sig spec0)).trans (V_kept m c main_arg2 (by decide)),
     ((h.1 c).2 main_arg3 (by decide : main_arg3 ∈ Pipeline.restRefs sig spec0)).trans (V_kept m c main_arg3 (by decide)),
     ((h.1 c).2 main_arg4 (by decide : main_arg4 ∈ Pipeline.restRefs sig spec0)).trans (V_kept m c main_arg4 (by decide)),
     ((h.1 c).2 main_arg5 (by decide : main_arg5 ∈ Pipeline.restRefs sig spec0)).trans (V_kept m c main_arg5 (by decide)),
     ((h.1 c).2 main_arg6 (by decide : main_arg6 ∈ Pipeline.restRefs sig spec0)).trans (V_kept m c main_arg6 (by decide))⟩, h.2⟩)
    (run_arrays m g (ok m))

end Cert.Word

end
-- ==== Proof.LastKit.lean ====
/- The last feed-forward call up to its pallas_call, and the facts of its schedule: the buffers' contents when the call
   begins, the windows' blocks, at which tiles each result's block is stored and written back. -/
module

public import proofs.«01_k».proof.Proof.Gen.KernelIdeal.Launch
public import Idealize.ShloMosaic.Lib.Pipeline.FrameBody
public import Idealize.ShloMosaic.Lib.Pipeline.TableIdle
public import Idealize.ShloMosaic.Lib.Tactic

@[expose] public section

set_option maxRecDepth 16384

noncomputable section

namespace Cert.Last

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable {F : FTy → Type} [FloatOps F] [Named F]
variable (m : (ℓ : Loc nD τ sig) → Buf (Elt F) ℓ)

/-- A core's buffers when the call begins. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
/-- The host operations run up to the call. -/
theorem upto (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- A buffer that no host operation writes is found as launched. -/
theorem V_kept (c : Dev nD) (b : Ref sig .tc)
    (h : b ≠ main_c ∧ b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.reshape_writes, Finset.mem_singleton]
    obtain ⟨h0, h1, h2, h3, h4, h5, h6⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- The table's contents when the call begins. -/
def tbl : pre0.Contents (Elt F) := fun j => V m (0 : Dev nD) (pre0.ref j)
theorem V_tbl (c : Dev nD) (j : Fin 1) : V m c (pre0.ref j) = tbl m j := by
  obtain rfl : c = 0 := Subsingleton.elim _ _; rfl
/-- The window over the table lies inside the packed array at every tile. -/
abbrev Inside : Prop := ok0 (F := F) (tbl m)
abbrev adm (hO : Inside m) : (pcfg0 (F := F)).Adm := ⟨tbl m, hO⟩
/-- The pipeline at the table's contents. -/
abbrev cfgM (hO : Inside m) : Pipeline.Cfg sig Λ₀ := cfg0 (adm m hO)

/-- A window's block at a tile, from its array as the call finds it. -/
def iblk (hO : Inside m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem found0 (hO : Inside m) {c : Dev nD} (dat : Dat τ (Elt F) Unit ℕ (UR sig nD τ) ℕ (cfgM m hO) c)
    (hA : dat.A 0 = V m c (Pipeline.arrRef spec0 0)) (ha : ∀ t, dat.after 0 t = iblk m hO c 0 t) (t : Fin (cfgM m hO).N) (d) :
    dat.before 0 t d = iblk m hO c 0 t :=
  (dat.before_in_eq_fetched 0 rfl (fun _ => rfl) (fun _ _ _ => rfl) (fun t => by rw [ha]; unfold Dat.blockOf iblk; rw [hA]; rfl) t d).trans
    (by unfold Dat.fetched Dat.blockOf iblk; rw [hA]; rfl)
theorem found1 (hO : Inside m) {c : Dev nD} (dat : Dat τ (Elt F) Unit ℕ (UR sig nD τ) ℕ (cfgM m hO) c)
    (hA : dat.A 1 = V m c (Pipeline.arrRef spec0 1)) (ha : ∀ t, dat.after 1 t = iblk m hO c 1 t) (t : Fin (cfgM m hO).N) (d) :
    dat.before 1 t d = iblk m hO c 1 t :=
  (dat.before_in_eq_fetched 1 rfl (fun _ => rfl) (fun _ _ _ => rfl) (fun t => by rw [ha]; unfold Dat.blockOf iblk; rw [hA]; rfl) t d).trans
    (by unfold Dat.fetched Dat.blockOf iblk; rw [hA]; rfl)
theorem found2 (hO : Inside m) {c : Dev nD} (dat : Dat τ (Elt F) Unit ℕ (UR sig nD τ) ℕ (cfgM m hO) c)
    (hA : dat.A 2 = V m c (Pipeline.arrRef spec0 2)) (ha : ∀ t, dat.after 2 t = iblk m hO c 2 t) (t : Fin (cfgM m hO).N) (d) :
    dat.before 2 t d = iblk m hO c 2 t :=
  (dat.before_in_eq_fetched 2 rfl (fun _ => rfl) (fun _ _ _ => rfl) (fun t => by rw [ha]; unfold Dat.blockOf iblk; rw [hA]; rfl) t d).trans
    (by unfold Dat.fetched Dat.blockOf iblk; rw [hA]; rfl)
theorem found3 (hO : Inside m) {c : Dev nD} (dat : Dat τ (Elt F) Unit ℕ (UR sig nD τ) ℕ (cfgM m hO) c)
    (hA : dat.A 3 = V m c (Pipeline.arrRef spec0 3)) (ha : ∀ t, dat.after 3 t = iblk m hO c 3 t) (t : Fin (cfgM m hO).N) (d) :
    dat.before 3 t d = iblk m hO c 3 t :=
  (dat.before_in_eq_fetched 3 rfl (fun _ => rfl) (fun _ _ _ => rfl) (fun t => by rw [ha]; unfold Dat.blockOf iblk; rw [hA]; rfl) t d).trans
    (by unfold Dat.fetched Dat.blockOf iblk; rw [hA]; rfl)
theorem found4 (hO : Inside m) {c : Dev nD} (dat : Dat τ (Elt F) Unit ℕ (UR sig nD τ) ℕ (cfgM m hO) c)
    (hA : dat.A 4 = V m c (Pipeline.arrRef spec0 4)) (ha : ∀ t, dat.after 4 t = iblk m hO c 4 t) (t : Fin (cfgM m hO).N) (d) :
    dat.before 4 t d = iblk m hO c 4 t :=
  (dat.before_in_eq_fetched 4 rfl (fun _ => rfl) (fun _ _ _ => rfl) (fun t => by rw [ha]; unfold Dat.blockOf iblk; rw [hA]; rfl) t d).trans
    (by unfold Dat.fetched Dat.blockOf iblk; rw [hA]; rfl)
theorem found5 (hO : Inside m) {c : Dev nD} (dat : Dat τ (Elt F) Unit ℕ (UR sig nD τ) ℕ (cfgM m hO) c)
    (hA : dat.A 5 = V m c (Pipeline.arrRef spec0 5)) (ha : ∀ t, dat.after 5 t = iblk m hO c 5 t) (t : Fin (cfgM m hO).N) (d) :
    dat.before 5 t d = iblk m hO c 5 t :=
  (dat.before_in_eq_fetched 5 rfl (fun _ => rfl) (fun _ _ _ => rfl) (fun t => by rw [ha]; unfold Dat.blockOf iblk; rw [hA]; rfl) t d).trans
    (by unfold Dat.fetched Dat.blockOf iblk; rw [hA]; rfl)
theorem found6 (hO : Inside m) {c : Dev nD} (dat : Dat τ (Elt F) Unit ℕ (UR sig nD τ) ℕ (cfgM m hO) c)
    (hA : dat.A 6 = V m c (Pipeline.arrRef spec0 6)) (ha : ∀ t, dat.after 6 t = iblk m hO c 6 t) (t : Fin (cfgM m hO).N) (d) :
    dat.before 6 t d = iblk m hO c 6 t :=
  (dat.before_in_eq_fetched 6 rfl (fun _ => rfl) (fun _ _ _ => rfl) (fun t => by rw [ha]; unfold Dat.blockOf iblk; rw [hA]; rfl) t d).trans
    (by unfold Dat.fetched Dat.blockOf iblk; rw [hA]; rfl)

/-- Tiles before 32 store the first result's block, the others the second's. -/
theorem cond_prompt : ∀ t : Fin grid0.N, k0_cond1 (grid0.coords t) = 1#1 ↔ t.val < 32 := by decide +kernel
theorem cond_sample : ∀ t : Fin grid0.N, k0_cond2 (grid0.coords t) = 1#1 ↔ 32 ≤ t.val := by decide +kernel

/-- The first result's block is written back at tiles 0 to 30 and at the last; the second's at tiles 32 to 95. -/
theorem flush7 (hO : Inside m) : ∀ t : Fin (cfgM m hO).N, ((cfgM m hO).win 7).flush t = true ↔ t.val < 31 ∨ t.val = 95 :=
  (by decide +kernel : ∀ t : Fin grid0.N, Pipeline.Window.flushOf grid0 true cc0_transform_7 t = true ↔ t.val < 31 ∨ t.val = 95)
theorem flush8 (hO : Inside m) : ∀ t : Fin (cfgM m hO).N, ((cfgM m hO).win 8).flush t = true ↔ 32 ≤ t.val :=
  (by decide +kernel : ∀ t : Fin grid0.N, Pipeline.Window.flushOf grid0 true cc0_transform_8 t = true ↔ 32 ≤ t.val)

/-- Where the windows sit: the results' blocks by their number, everything else but the packed rows whole. -/
theorem places : ∀ t : Fin grid0.N,
    cc0_transform_7 (grid0.coords t) (0 : Fin 2) = min t.val 31 ∧ cc0_transform_7 (grid0.coords t) (1 : Fin 2) = 0
    ∧ cc0_transform_8 (grid0.coords t) (0 : Fin 2) = t.val - 32 ∧ cc0_transform_8 (grid0.coords t) (1 : Fin 2) = 0
    ∧ (grid0.coords t (0 : Fin 1)).val = t.val := by decide +kernel

/-- Windows 0 to 6 are stored by no tile and never idle. -/
theorem live (hO : Inside m) (w : Fin (cfgM m hO).W) (hw : w.val < 7) (t : Fin (cfgM m hO).N) : (cfgM m hO).idle w (grid0.coords t) = false := by
  obtain ⟨w, h⟩ := w
  simp only at hw
  show idle0 ⟨w, h⟩ _ = false
  interval_cases w <;> rfl
theorem idle7 (hO : Inside m) (t : Fin (cfgM m hO).N) : (cfgM m hO).idle 7 (grid0.coords t) = decide (32 ≤ t.val) := by
  show (!(k0_cond1 (grid0.coords t) == 1#1)) = _
  have := cond_prompt t
  by_cases h : 32 ≤ t.val
  · rw [decide_eq_true h]; simpa using fun e => absurd (this.mp e) (by omega)
  · rw [decide_eq_false h]; simpa using this.mpr (by omega)
theorem idle8 (hO : Inside m) (t : Fin (cfgM m hO).N) : (cfgM m hO).idle 8 (grid0.coords t) = decide (t.val < 32) := by
  show (!(k0_cond2 (grid0.coords t) == 1#1)) = _
  have := cond_sample t
  by_cases h : t.val < 32
  · rw [decide_eq_true h]; simpa using fun e => absurd (this.mp e) (by omega)
  · rw [decide_eq_false h]; simpa using this.mpr (by omega)

abbrev ms0 (hO : Inside m) (t : Fin (cfgM m hO).N) : Memref sig .tc .vmem S512x1024 .f32 := spec0_0.stage ((cfgM m hO).slots t 0)
abbrev ms1 (hO : Inside m) (t : Fin (cfgM m hO).N) : Memref sig .tc .vmem S1x1024 .f32 := spec0_1.stage ((cfgM m hO).slots t 1)
abbrev ms2 (hO : Inside m) (t : Fin (cfgM m hO).N) : Memref sig .tc .vmem S1x1024 .f32 := spec0_2.stage ((cfgM m hO).slots t 2)
abbrev ms3 (hO : Inside m) (t : Fin (cfgM m hO).N) : Memref sig .tc .vmem S1024x2816 .bf16 := spec0_3.stage ((cfgM m hO).slots t 3)
abbrev ms4 (hO : Inside m) (t : Fin (cfgM m hO).N) : Memref sig .tc .vmem S1024x2816 .bf16 := spec0_4.stage ((cfgM m hO).slots t 4)
abbrev ms5 (hO : Inside m) (t : Fin (cfgM m hO).N) : Memref sig .tc .vmem S2816x1024 .bf16 := spec0_5.stage ((cfgM m hO).slots t 5)
abbrev ms6 (hO : Inside m) (t : Fin (cfgM m hO).N) : Memref sig .tc .vmem S1x1024 .f32 := spec0_6.stage ((cfgM m hO).slots t 6)
abbrev ms7 (hO : Inside m) (t : Fin (cfgM m hO).N) : Memref sig .tc .vmem S512x1024 .f32 := spec0_7.stage ((cfgM m hO).slots t 7)
abbrev ms8 (hO : Inside m) (t : Fin (cfgM m hO).N) : Memref sig .tc .vmem S512x1024 .f32 := spec0_8.stage ((cfgM m hO).slots t 8)

/-- The body as the pipeline calls it at a tile. -/
abbrev bodyAt (a : (pcfg0 (F := F)).Adm) (t : Fin (cfg0 a).N) : Prog (TpuEff nD τ sig (Elt F) Λ₀ .tc) PUnit :=
  cc0_ffn_last (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

end Cert.Last

end
-- ==== Proof.LastTile.lean ====
/- One tile of the last feed-forward call: the body on its staging memrefs, a prompt tile storing the first result's block
   and a sample tile the second's, the other block left as it was. -/
module

public import proofs.«01_k».proof.Proof.RowBlock
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Last

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

open Cert.RowBlock

/-- A block's whole rectangle, and a gain row's. -/
abbrev rX : Rect S512x1024 := Rect.unit (s := S512x1024) ![0, 0] S512x1024.size inb_S512x1024_S512x1024_0_0
abbrev rG : Rect S1x1024 := Rect.unit (s := S1x1024) ![0, 0] S1x1024.size inb_S1x1024_S1x1024_0_0

/-- A store through the whole rectangle leaves nothing of the block out. -/
theorem cover (p : Vec Ideal S512x1024 .f32) (y : S512x1024.Idx) :
    ∃ pc ∈ ([⟨rX, p⟩] : List (View.Piece (Elt Ideal) S512x1024 .f32)), y ∈ pc.1.set :=
  View.cover_of_tiled [⟨rX, p⟩] S512x1024.size (by rfl) y

/-- What the body computes from its loads of whole blocks is what it computes from the blocks. -/
theorem whole_loads (x0 : Vec Ideal S512x1024 .f32) (x1 x2 : Vec Ideal S1x1024 .f32) (x3 x4 : Vec Ideal S1024x2816 .bf16)
    (x5 : Vec Ideal S2816x1024 .bf16) (x6 : Vec Ideal S1x1024 .f32) :
    endB (F := Ideal) ((-((Real.log 2)⁻¹) : ℝ) : EReal) (View.ld x0 rX) (View.ld x1 rG) (View.ld x2 rG) x3 x4 x5 (View.ld x6 rG)
      = endB (F := Ideal) ((-((Real.log 2)⁻¹) : ℝ) : EReal) x0 x1 x2 x3 x4 x5 x6 := by
  rw [View.ld_unit_lit _ x0 (by decide), View.ld_unit_lit _ x1 (by decide), View.ld_unit_lit _ x2 (by decide), View.ld_unit_lit _ x6 (by decide)]

set_option maxHeartbeats 1000000 in
/-- A prompt tile stores the normalised half step of its rows to the first result. -/
theorem tile_prompt (c : Dev nD) (i : grid0.Coords) (at0 : Memref sig .tc .smem S96 .i32) (ht0 : at0.IsWhole) (a0 : Memref sig .tc .vmem S512x1024 .f32) (h0 : a0.IsWhole) (a1 : Memref sig .tc .vmem S1x1024 .f32) (h1 : a1.IsWhole) (a2 : Memref sig .tc .vmem S1x1024 .f32) (h2 : a2.IsWhole) (a3 : Memref sig .tc .vmem S1024x2816 .bf16) (h3 : a3.IsWhole) (a4 : Memref sig .tc .vmem S1024x2816 .bf16) (h4 : a4.IsWhole) (a5 : Memref sig .tc .vmem S2816x1024 .bf16) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole)
    (hc0 : k0_cond1 i = 1#1) (hc1 : ¬k0_cond2 i = 1#1) (x0 : Vec Ideal S512x1024 .f32) (x1 : Vec Ideal S1x1024 .f32) (x2 : Vec Ideal S1x1024 .f32) (x3 : Vec Ideal S1024x2816 .bf16) (x4 : Vec Ideal S1024x2816 .bf16) (x5 : Vec Ideal S2816x1024 .bf16) (x6 : Vec Ideal S1x1024 .f32) (y : Vec Ideal S512x1024 .f32) (T : sProp 𝕄) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ owns (c : Thread nD τ) a8 fullShare y ∗ T
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (endB (F := Ideal) ((-((Real.log 2)⁻¹) : ℝ) : EReal) x0 x1 x2 x3 x4 x5 x6) ∗ owns (c : Thread nD τ) a8 fullShare y ∗ T) -∗ K ⟨⟩))
      ⊢ wp frame (wpE (defs₀ (F := Ideal)) Variants.none c none) Set.univ (cc0_ffn_last i at0 ht0 a0 h0 a1 h1 a2 h2 a3 h3 a4 h4 a5 h5 a6 h6 a7 h7 a8 h8) K := by
  simp only [cc0_ffn_last_eq_skeleton]; unfold cc0_ffn_last_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, HT, Hk⟩
  subst hf0 hf1 hf2 hf3 hf4 hf5 hf6 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover _)).trans ?_
    exact (View.canon_cons_unit_lit _ _ _ (by decide)).trans (whole_loads _ _ _ _ _ _ _)
  isplitl [H8]
  · iexists f8; isplitr; · ipureintro; rfl
    iexact H8
  iexact HT

set_option maxHeartbeats 1000000 in
/-- A sample tile stores the normalised half step of its rows to the second result. -/
theorem tile_sample (c : Dev nD) (i : grid0.Coords) (at0 : Memref sig .tc .smem S96 .i32) (ht0 : at0.IsWhole) (a0 : Memref sig .tc .vmem S512x1024 .f32) (h0 : a0.IsWhole) (a1 : Memref sig .tc .vmem S1x1024 .f32) (h1 : a1.IsWhole) (a2 : Memref sig .tc .vmem S1x1024 .f32) (h2 : a2.IsWhole) (a3 : Memref sig .tc .vmem S1024x2816 .bf16) (h3 : a3.IsWhole) (a4 : Memref sig .tc .vmem S1024x2816 .bf16) (h4 : a4.IsWhole) (a5 : Memref sig .tc .vmem S2816x1024 .bf16) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole)
    (hc0 : ¬k0_cond1 i = 1#1) (hc1 : k0_cond2 i = 1#1) (x0 : Vec Ideal S512x1024 .f32) (x1 : Vec Ideal S1x1024 .f32) (x2 : Vec Ideal S1x1024 .f32) (x3 : Vec Ideal S1024x2816 .bf16) (x4 : Vec Ideal S1024x2816 .bf16) (x5 : Vec Ideal S2816x1024 .bf16) (x6 : Vec Ideal S1x1024 .f32) (y : Vec Ideal S512x1024 .f32) (T : sProp 𝕄) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare y ∗ (∃ d, owns (c : Thread nD τ) a8 fullShare d) ∗ T
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare y ∗ owns (c : Thread nD τ) a8 fullShare (endB (F := Ideal) ((-((Real.log 2)⁻¹) : ℝ) : EReal) x0 x1 x2 x3 x4 x5 x6) ∗ T) -∗ K ⟨⟩))
      ⊢ wp frame (wpE (defs₀ (F := Ideal)) Variants.none c none) Set.univ (cc0_ffn_last i at0 ht0 a0 h0 a1 h1 a2 h2 a3 h3 a4 h4 a5 h5 a6 h6 a7 h7 a8 h8) K := by
  simp only [cc0_ffn_last_eq_skeleton]; unfold cc0_ffn_last_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover _)).trans ?_
    exact (View.canon_cons_unit_lit _ _ _ (by decide)).trans (whole_loads _ _ _ _ _ _ _)
  iexact HT

end Cert.Last

end
-- ==== Proof.LastRun.lean ====
/- The last feed-forward call run: every tile leaves its block of one of the two results at the normalised half step of its
   rows, and the whole run ends with the two results at what the tiles wrote back. -/
module

public import proofs.«01_k».proof.Proof.LastKit
public import proofs.«01_k».proof.Proof.LastTile
public import Idealize.ShloMosaic.Lib.Claim

@[expose] public section

set_option maxRecDepth 16384

noncomputable section

namespace Cert.Last

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

open Cert.RowBlock

variable (m : (ℓ : Loc nD τ sig) → Buf (Elt Ideal) ℓ) (ρ : Dev nD → PrngReg)

/-- What tile `t` computes. -/
def yblk (hO : Inside m) (c : Dev nD) (t : Fin (cfgM m hO).N) : Vec Ideal S512x1024 .f32 :=
  endB (F := Ideal) ((-((Real.log 2)⁻¹) : ℝ) : EReal) (iblk m hO c 0 t) (iblk m hO c 1 t) (iblk m hO c 2 t) (iblk m hO c 3 t) (iblk m hO c 4 t) (iblk m hO c 5 t) (iblk m hO c 6 t)

/-- The last prompt tile a tile has seen: itself, or tile 31. -/
def upTo31 (hO : Inside m) (t : Fin (cfgM m hO).N) : Fin (cfgM m hO).N := ⟨min t.val 31, lt_of_le_of_lt (Nat.min_le_left _ _) t.isLt⟩

/-- What the buffers hold after each tile: inputs their blocks, the first result's what the last prompt tile computed, the
    second's what the tile computed. -/
def dats (hO : Inside m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => yblk m hO c (upTo31 m hO t)
    | ⟨8, _⟩ => yblk m hO c t
  Φ _ := iprop(Pipeline.ΦA spec0 c ∗ Pipeline.ΦT pre0 (tbl m) c)
  q _ := fullShare
  owed _ := 0

theorem A_eq (hO : Inside m) (c : Dev nD) (w : Fin (cfgM m hO).W) : (dats m hO 0 c).A w = V m c (Pipeline.arrRef spec0 w) := by
  dsimp only [dats]

theorem after0 (hO : Inside m) (c : Dev nD) (t : Fin (cfgM m hO).N) : (dats m hO 0 c).after 0 t = iblk m hO c 0 t := by dsimp only [dats]; try rfl
theorem after1 (hO : Inside m) (c : Dev nD) (t : Fin (cfgM m hO).N) : (dats m hO 0 c).after 1 t = iblk m hO c 1 t := by dsimp only [dats]; try rfl
theorem after2 (hO : Inside m) (c : Dev nD) (t : Fin (cfgM m hO).N) : (dats m hO 0 c).after 2 t = iblk m hO c 2 t := by dsimp only [dats]; try rfl
theorem after3 (hO : Inside m) (c : Dev nD) (t : Fin (cfgM m hO).N) : (dats m hO 0 c).after 3 t = iblk m hO c 3 t := by dsimp only [dats]; try rfl
theorem after4 (hO : Inside m) (c : Dev nD) (t : Fin (cfgM m hO).N) : (dats m hO 0 c).after 4 t = iblk m hO c 4 t := by dsimp only [dats]; try rfl
theorem after5 (hO : Inside m) (c : Dev nD) (t : Fin (cfgM m hO).N) : (dats m hO 0 c).after 5 t = iblk m hO c 5 t := by dsimp only [dats]; try rfl
theorem after6 (hO : Inside m) (c : Dev nD) (t : Fin (cfgM m hO).N) : (dats m hO 0 c).after 6 t = iblk m hO c 6 t := by dsimp only [dats]; try rfl
theorem after7 (hO : Inside m) (c : Dev nD) (t : Fin (cfgM m hO).N) : (dats m hO 0 c).after 7 t = yblk m hO c (upTo31 m hO t) := by dsimp only [dats]; try rfl
theorem after8 (hO : Inside m) (c : Dev nD) (t : Fin (cfgM m hO).N) : (dats m hO 0 c).after 8 t = yblk m hO c t := by dsimp only [dats]; try rfl

theorem before0 (hO : Inside m) (c : Dev nD) (t : Fin (cfgM m hO).N) (d) : (dats m hO 0 c).before 0 t d = iblk m hO c 0 t :=
  found0 m hO (dats m hO 0 c) (A_eq m hO c 0) (after0 m hO c) t d
theorem before1 (hO : Inside m) (c : Dev nD) (t : Fin (cfgM m hO).N) (d) : (dats m hO 0 c).before 1 t d = iblk m hO c 1 t :=
  found1 m hO (dats m hO 0 c) (A_eq m hO c 1) (after1 m hO c) t d
theorem before2 (hO : Inside m) (c : Dev nD) (t : Fin (cfgM m hO).N) (d) : (dats m hO 0 c).before 2 t d = iblk m hO c 2 t :=
  found2 m hO (dats m hO 0 c) (A_eq m hO c 2) (after2 m hO c) t d
theorem before3 (hO : Inside m) (c : Dev nD) (t : Fin (cfgM m hO).N) (d) : (dats m hO 0 c).before 3 t d = iblk m hO c 3 t :=
  found3 m hO (dats m hO 0 c) (A_eq m hO c 3) (after3 m hO c) t d
theorem before4 (hO : Inside m) (c : Dev nD) (t : Fin (cfgM m hO).N) (d) : (dats m hO 0 c).before 4 t d = iblk m hO c 4 t :=
  found4 m hO (dats m hO 0 c) (A_eq m hO c 4) (after4 m hO c) t d
theorem before5 (hO : Inside m) (c : Dev nD) (t : Fin (cfgM m hO).N) (d) : (dats m hO 0 c).before 5 t d = iblk m hO c 5 t :=
  found5 m hO (dats m hO 0 c) (A_eq m hO c 5) (after5 m hO c) t d
theorem before6 (hO : Inside m) (c : Dev nD) (t : Fin (cfgM m hO).N) (d) : (dats m hO 0 c).before 6 t d = iblk m hO c 6 t :=
  found6 m hO (dats m hO 0 c) (A_eq m hO c 6) (after6 m hO c) t d

/-- From tile 32 on the first result's buffer has been stored since it was last written back. -/
theorem stored7 (hO : Inside m) : ∀ n : ℕ, n + 32 < 96 → (cfgM m hO).fresh 7 (n + 32) = false
  | 0, h => by
    have hN : (cfgM m hO).N = 96 := N_0
    rw [(cfgM m hO).fresh_succ 7 31 (lt_of_lt_of_eq (by decide) hN.symm), idle7]
    have hf : ((cfgM m hO).win 7).flush ⟨31, lt_of_lt_of_eq (by decide) hN.symm⟩ = false := by
      rw [← Bool.not_eq_true, flush7]; simp
    rw [hf]; rfl
  | n + 1, h => by
    have hN : (cfgM m hO).N = 96 := N_0
    show (cfgM m hO).fresh 7 (n + 32 + 1) = false
    rw [(cfgM m hO).fresh_succ 7 (n + 32) (lt_of_lt_of_eq (by omega) hN.symm), stored7 hO n (by omega), Bool.and_false, Bool.or_false,
      ← Bool.not_eq_true, flush7]
    simp only
    omega

/-- So it still holds what tile 31 stored. -/
theorem before7 (hO : Inside m) (c : Dev nD) (t : Fin (cfgM m hO).N) (ht : 32 ≤ t.val) (d) :
    (dats m hO 0 c).before 7 t d = yblk m hO c (upTo31 m hO t) := by
  have hN : (cfgM m hO).N = 96 := N_0
  have hlt := t.isLt
  rw [(dats m hO 0 c).before_out_traj 7 rfl (fun _ _ => rfl) (fun t h0 hi _ => ?_) t.val t rfl d, after7]
  · refine (if_neg (by rw [show t.val = (t.val - 32) + 32 by omega, stored7 m hO _ (by omega)]; exact Bool.false_ne_true)).trans ?_
    exact congrArg (yblk m hO c) (Fin.ext (show min (t.val - 1) 31 = min t.val 31 by omega))
  · rw [after7, after7]
    have h1 : 32 ≤ t.val := by rw [idle7] at hi; exact of_decide_eq_true hi
    exact congrArg (yblk m hO c) (Fin.ext (show min t.val 31 = min (t.val - 1) 31 by omega))

/-- What the body is called with at a tile, and what it returns. -/
def bodyPre (hO : Inside m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d)))
def bodyPost (hO : Inside m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

/-- A window the tile stores, or one never idle, is left at `after`. -/
theorem leaves_live (hO : Inside m) (c : Dev nD) (w : Fin (cfgM m hO).W) (t : Fin (cfgM m hO).N)
    (h : (cfgM m hO).idle w (grid0.coords t) = false) :
    (dats m hO 0 c).leavesExact w t
      = owns (c : Thread nD τ) (((cfgM m hO).win w).stage ((cfgM m hO).slots t w)) fullShare ((dats m hO 0 c).after w t) := by
  unfold Dat.leavesExact
  rw [show (cfgM m hO).idle w ((cfgM m hO).grid.coords t) = false from h]

/-- At a sample tile the first result's buffer, at what tile 31 stored, is what is owed of it: written back or not. -/
theorem leaves7 (hO : Inside m) (c : Dev nD) (t : Fin (cfgM m hO).N) (ht : 32 ≤ t.val) :
    owns (c : Thread nD τ) (ms7 m hO t) fullShare (yblk m hO c (upTo31 m hO t)) ⊢ ((dats m hO 0 c).leavesExact 7 t : sProp 𝕄) := by
  have hi : (cfgM m hO).idle 7 ((cfgM m hO).grid.coords t) = true := (idle7 m hO t).trans (decide_eq_true ht)
  cases hf : ((cfgM m hO).win 7).flush t
  · rw [(dats m hO 0 c).leavesExact_idle 7 t hi hf]
    iintro H
    iexists ((dats m hO 0 c).after 7 t)
    rw [before7 m hO c t ht]
    iexact H
  · rw [show (dats m hO 0 c).leavesExact 7 t = owns (c : Thread nD τ) (((cfgM m hO).win 7).stage ((cfgM m hO).slots t 7)) fullShare ((dats m hO 0 c).after 7 t) from by
      unfold Dat.leavesExact; rw [hi, hf]]
    rw [after7]
    exact .rfl

set_option maxHeartbeats 1600000 in
/-- The body at any tile. -/
theorem sound (hO : Inside m) (c : Dev nD) (t : Fin (cfgM m hO).N) :
    bodyPre m hO c t ⊢ wp frame (wpE (defs₀ (F := Ideal)) Variants.none c none) Set.univ (bodyAt (adm m hO) t) (fun _ => bodyPost m hO c t) := by
  unfold bodyPre bodyPost bodyAt
  simp only [before0, before1, before2, before3, before4, before5, before6]
  rw [show (dats m hO 0 c).Φ t.succ = (dats m hO 0 c).Φ t.castSucc from rfl,
    show (dats m hO 0 c).owesAt () t.succ = (dats m hO 0 c).owesAt () t.castSucc from rfl]
  rw [leaves_live m hO c 0 t (live m hO 0 (show (0 : ℕ) < 7 by decide) t), after0]
  rw [leaves_live m hO c 1 t (live m hO 1 (show (1 : ℕ) < 7 by decide) t), after1]
  rw [leaves_live m hO c 2 t (live m hO 2 (show (2 : ℕ) < 7 by decide) t), after2]
  rw [leaves_live m hO c 3 t (live m hO 3 (show (3 : ℕ) < 7 by decide) t), after3]
  rw [leaves_live m hO c 4 t (live m hO 4 (show (4 : ℕ) < 7 by decide) t), after4]
  rw [leaves_live m hO c 5 t (live m hO 5 (show (5 : ℕ) < 7 by decide) t), after5]
  rw [leaves_live m hO c 6 t (live m hO 6 (show (6 : ℕ) < 7 by decide) t), after6]
  by_cases h : t.val < 32
  · have hu : upTo31 m hO t = t := Fin.ext (show min t.val 31 = t.val by omega)
    have hi : (cfgM m hO).idle 8 ((cfgM m hO).grid.coords t) = true := (idle8 m hO t).trans (decide_eq_true h)
    have hf : ((cfgM m hO).win 8).flush t = false := by rw [← Bool.not_eq_true, flush8]; omega
    rw [leaves_live m hO c 7 t ((idle7 m hO t).trans (decide_eq_false (by omega))), after7, hu,
      (dats m hO 0 c).leavesExact_idle 8 t hi hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tile_prompt c (grid0.coords t) _ _ _ _ _ _ _ _ _ _ _ _ _ _ _ _ _ _ _ _ ((cond_prompt t).mpr h) (fun e => absurd ((cond_sample t).mp e) (by omega)) (iblk m hO c 0 t) (iblk m hO c 1 t) (iblk m hO c 2 t) (iblk m hO c 3 t) (iblk m hO c 4 t) (iblk m hO c 5 t) (iblk m hO c 6 t) _ ((dats m hO 0 c).Φ t.castSucc) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HΦ]; · iexact HΦ
    iintro ⟨H0, H1, H2, H3, H4, H5, H6, H7, H8, HΦ⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h' : 32 ≤ t.val := by omega
    rw [leaves_live m hO c 8 t ((idle8 m hO t).trans (decide_eq_false h)), after8]
    simp only [before7 m hO c t h']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tile_sample c (grid0.coords t) _ _ _ _ _ _ _ _ _ _ _ _ _ _ _ _ _ _ _ _ (fun e => absurd ((cond_prompt t).mp e) h) ((cond_sample t).mpr h') (iblk m hO c 0 t) (iblk m hO c 1 t) (iblk m hO c 2 t) (iblk m hO c 3 t) (iblk m hO c 4 t) (iblk m hO c 5 t) (iblk m hO c 6 t) (yblk m hO c (upTo31 m hO t)) ((dats m hO 0 c).Φ t.castSucc) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HΦ]; · iexact HΦ
    iintro ⟨H0, H1, H2, H3, H4, H5, H6, H7, H8, HΦ⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves7 m hO c t h')
      iexact H7
    iexact H8

theorem row (hO : Inside m) (t : Fin (cfgM m hO).N) :
    defs₀ (F := Ideal) .tc (cfgM m hO).body ((cfgM m hO).bodyArgs t ((cfgM m hO).slots t)) = bodyAt (adm m hO) t := by
  unfold defs₀; rw [Defs.onTc_tc]

/-- The body meets the pipeline's obligation at every tile. -/
theorem obligation (hO : Inside m) (c : Dev nD) : BodyObligation (dats m hO 0 c) (defs₀ (F := Ideal)) Variants.none () Set.univ := fun t => by
  rw [bigSep_W0, bigSep_W0, row m hO]
  exact triple_restated (sound m hO c t) rfl .rfl fun _ => .rfl

set_option backward.isDefEq.respectTransparency.types false in
set_option maxHeartbeats 800000 in
/-- The whole run: the pipeline's arrays end at what the tiles wrote back, the other buffers as they were, the counters at zero. -/
theorem run_arrays (hO : Inside m) : θ_run defs (onTc (τ := τ) (main (F := Ideal))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := upto m Variants.none) (hA := A_eq m hO) (hpf := V_tbl m) (hΦ := fun _ _ => rfl)

end Cert.Last

end
-- ==== Proof.LastTable.lean ====
/- The table of the last feed-forward call of KernelIdeal: the packed row every tile begins at, a constant of the program; and
   the side condition of the element-indexed window over it: every tile's 512 rows lie inside the packed array. -/
module

public import proofs.«01_k».proof.Proof.LastKit
public import proofs.«01_k».proof.Proof.RowStart
public import Idealize.ShloMosaic.Lib.StableHlo.ReadAt

@[expose] public section

set_option maxRecDepth 16384

noncomputable section

namespace Cert.Last

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The constant's entries in closed form. -/
theorem entries : ∀ x : S96.Idx, lit0 (S96.rowMajor x) = BitVec.ofNat 32 (rowStart (x 0).val) := by decide +kernel

/-- The table holds them when the call begins. -/
theorem table (c : Dev nD) (x : S96.Idx) : V m c main_c x = BitVec.ofNat 32 (rowStart (x 0).val) := by
  rw [← entries]
  unfold V
  after_reads_at

theorem coord_word : ∀ i : grid0.Coords, (Scalar.indexCast (BitVec.ofNat 32 (i 0).val)).toNat = (i 0).val := by decide +kernel

theorem start_small (n : Nat) (h : n < 96) : rowStart n + 512 ≤ 49664 := by
  unfold rowStart; split <;> omega

theorem start_dvd (n : Nat) : 16 ∣ rowStart n := by
  unfold rowStart; split <;> omega

/-- The word a tile reads from it. -/
theorem word (i : grid0.Coords) : k0_mult1 (tbl m) i = BitVec.ofNat 32 (rowStart (i 0).val) := by
  have h : ∀ a, (![(Scalar.indexCast (BitVec.ofNat 32 (i 0).val)).toNat] : Fin 1 → Nat) a + 1 ≤ S96.size a := by
    intro a
    match a with
    | ⟨0, _⟩ => show (Scalar.indexCast (BitVec.ofNat 32 (i 0).val)).toNat + 1 ≤ 96; rw [coord_word]; exact (i 0).isLt
  unfold k0_mult1
  refine (dif_pos h).trans ?_
  refine (table m 0 _).trans ?_
  show BitVec.ofNat 32 (rowStart (Scalar.indexCast (BitVec.ofNat 32 (i 0).val)).toNat) = _
  rw [coord_word]

/-- The row a tile's window begins at. -/
theorem offset (i : grid0.Coords) (h₁ h₂) : cc0_transform_0 h₁ h₂ (tbl m) i = ![rowStart (i 0).val, 0] := by
  have e : (tbl m 0 ((Rect.unit (s := S96) ![(Scalar.indexCast (BitVec.ofNat 32 (i 0).val)).toNat] S1.size (h₁ i)).emb
      (Shape.Idx.first (h₂.symm ▸ Nat.one_pos)))).toNat = rowStart (i 0).val := by
    refine (congrArg BitVec.toNat (table m 0 _)).trans ?_
    rw [show ((Rect.unit (s := S96) ![(Scalar.indexCast (BitVec.ofNat 32 (i 0).val)).toNat] S1.size (h₁ i)).emb
      (Shape.Idx.first (h₂.symm ▸ Nat.one_pos)) 0).val = (i 0).val from ?_, BitVec.toNat_ofNat]
    · have := start_small (i 0).val (i 0).isLt
      exact Nat.mod_eq_of_lt (by omega)
    · rw [Rect.emb_apply]
      show (Scalar.indexCast (BitVec.ofNat 32 (i 0).val)).toNat + 1 * 0 = _
      rw [coord_word]; omega
  unfold cc0_transform_0
  funext a
  match a with
  | ⟨0, _⟩ => exact e
  | ⟨1, _⟩ => rfl

/-- Every tile begins at a multiple of 16 and lies inside the packed array. -/
theorem ok : Inside m := by
  refine ⟨fun i => ?_, fun i => ⟨fun a => ?_, .inl rfl⟩⟩
  · rw [word]
    have h1 := start_small (i 0).val (i 0).isLt
    have h2 := start_dvd (i 0).val
    rw [BitVec.toInt_eq_toNat_of_lt (by rw [BitVec.toNat_ofNat, Nat.mod_eq_of_lt (by omega)]; omega), BitVec.toNat_ofNat, Nat.mod_eq_of_lt (by omega)]
    exact_mod_cast h2
  · rw [offset]
    have h1 := start_small (i 0).val (i 0).isLt
    match a with
    | ⟨0, _⟩ => exact h1
    | ⟨1, _⟩ => exact Nat.le_refl _

end Cert.Last

end
-- ==== Proof.LastValue.lean ====
/- What the last feed-forward call computes: at a row of either result, the normalised half step of the packed row it comes
   from. The first result keeps the eight prompts' rows, the second the two samples', each sequence without its first 16. -/
module

public import proofs.«01_k».proof.Proof.LastRun
public import proofs.«01_k».proof.Proof.LastTable

@[expose] public section

set_option maxRecDepth 16384

noncomputable section

namespace Cert.Last

open Cert.KernelIdeal Cert.KernelIdeal.Gen Idealize.ShloMosaic Idealize.ShloMosaic.TcCoe Idealize.SL.Sem
open Cert.RowMath Cert.RowBlock

variable (m : (ℓ : Loc nD τ sig) → Buf (Elt Ideal) ℓ) (ρ : Dev nD → PrngReg)

/-- The normalised half step of packed row `r`. -/
def rowOut (c : Dev nD) (r : Fin 49664) (k : Fin 1024) : EReal :=
  rms (half (fun k => m ((c : Thread nD τ).loc main_arg0) (ix2 r k)) (fun k => m ((c : Thread nD τ).loc main_arg1) (ix1 k))
    (fun k => m ((c : Thread nD τ).loc main_arg2) (ix1 k)) (fun k j => m ((c : Thread nD τ).loc main_arg3) (ix2 k j))
    (fun k j => m ((c : Thread nD τ).loc main_arg4) (ix2 k j)) (fun j k => m ((c : Thread nD τ).loc main_arg5) (ix2 j k)))
    (fun k => m ((c : Thread nD τ).loc main_arg6) (ix1 k)) k

/-- The prompts' result. -/
def G7 (c : Dev nD) : S16384x1024.Idx → EReal := fun i =>
  rowOut m c ⟨2064 * ((i 0).val / 2048) + (16 + (i 0).val % 2048), by have : (i 0).val < 16384 := (i 0).isLt; omega⟩ (i 1)
/-- The samples' result. -/
def G8 (c : Dev nD) : S32768x1024.Idx → EReal := fun i =>
  rowOut m c ⟨16512 + 16400 * ((i 0).val / 16384) + (16 + (i 0).val % 16384), by have : (i 0).val < 32768 := (i 0).isLt; omega⟩ (i 1)

theorem blk0 (hO : Inside m) (c : Dev nD) (t : Fin (cfgM m hO).N) (r : Fin 512) (k : Fin 1024) (h : rowStart t.val + r.val < 49664) :
    iblk m hO c 0 t (ix2 r k) = m ((c : Thread nD τ).loc main_arg0) (ix2 ⟨rowStart t.val + r.val, h⟩ k) := by
  have hp := (places t).2.2.2.2
  show V m c main_arg0 ((((cfgM m hO).win 0).blk t).view.emb (ix2 r k)) = _
  rw [V_kept m c main_arg0 (by decide)]
  refine congrArg _ (funext fun a => Fin.ext ?_)
  match a with
  | ⟨0, _⟩ =>
    show cc0_transform_0 _ _ (tbl m) (grid0.coords t) (0 : Fin 2) + 1 * r.val = rowStart t.val + r.val
    rw [offset, hp]
    show rowStart t.val + 1 * r.val = _
    omega
  | ⟨1, _⟩ =>
    show 0 + 1 * k.val = k.val
    omega

theorem blk1 (hO : Inside m) (c : Dev nD) (t : Fin (cfgM m hO).N) (k : Fin 1024) :
    iblk m hO c 1 t (ix2 0 k) = m ((c : Thread nD τ).loc main_arg1) (ix1 k) := by
  have h : (((cfgM m hO).win 1).blk t).view.emb (ix2 0 k) = ix2 0 k := by
    refine funext fun a => Fin.ext ?_
    match a with
    | ⟨0, _⟩ => show 0 * 1 + 1 * 0 = 0; omega
    | ⟨1, _⟩ => show 0 * 1024 + 1 * k.val = k.val; omega
  show V m c main_v0 ((((cfgM m hO).win 1).blk t).view.emb (ix2 0 k)) = _
  rw [h]
  unfold V
  after_reads_at

theorem blk2 (hO : Inside m) (c : Dev nD) (t : Fin (cfgM m hO).N) (k : Fin 1024) :
    iblk m hO c 2 t (ix2 0 k) = m ((c : Thread nD τ).loc main_arg2) (ix1 k) := by
  have h : (((cfgM m hO).win 2).blk t).view.emb (ix2 0 k) = ix2 0 k := by
    refine funext fun a => Fin.ext ?_
    match a with
    | ⟨0, _⟩ => show 0 * 1 + 1 * 0 = 0; omega
    | ⟨1, _⟩ => show 0 * 1024 + 1 * k.val = k.val; omega
  show V m c main_v1 ((((cfgM m hO).win 2).blk t).view.emb (ix2 0 k)) = _
  rw [h]
  unfold V
  after_reads_at

theorem blk3 (hO : Inside m) (c : Dev nD) (t : Fin (cfgM m hO).N) (k : Fin 1024) (j : Fin 2816) :
    iblk m hO c 3 t (ix2 k j) = m ((c : Thread nD τ).loc main_arg3) (ix2 k j) := by
  have h : (((cfgM m hO).win 3).blk t).view.emb (ix2 k j) = ix2 k j := by
    refine funext fun a => Fin.ext ?_
    match a with
    | ⟨0, _⟩ => show 0 * 1024 + 1 * k.val = k.val; omega
    | ⟨1, _⟩ => show 0 * 2816 + 1 * j.val = j.val; omega
  show V m c main_v2 ((((cfgM m hO).win 3).blk t).view.emb (ix2 k j)) = _
  rw [h]
  unfold V
  after_reads_at

theorem blk4 (hO : Inside m) (c : Dev nD) (t : Fin (cfgM m hO).N) (k : Fin 1024) (j : Fin 2816) :
    iblk m hO c 4 t (ix2 k j) = m ((c : Thread nD τ).loc main_arg4) (ix2 k j) := by
  have h : (((cfgM m hO).win 4).blk t).view.emb (ix2 k j) = ix2 k j := by
    refine funext fun a => Fin.ext ?_
    match a with
    | ⟨0, _⟩ => show 0 * 1024 + 1 * k.val = k.val; omega
    | ⟨1, _⟩ => show 0 * 2816 + 1 * j.val = j.val; omega
  show V m c main_v3 ((((cfgM m hO).win 4).blk t).view.emb (ix2 k j)) = _
  rw [h]
  unfold V
  after_reads_at

theorem blk5 (hO : Inside m) (c : Dev nD) (t : Fin (cfgM m hO).N) (j : Fin 2816) (k : Fin 1024) :
    iblk m hO c 5 t (ix2 j k) = m ((c : Thread nD τ).loc main_arg5) (ix2 j k) := by
  have h : (((cfgM m hO).win 5).blk t).view.emb (ix2 j k) = ix2 j k := by
    refine funext fun a => Fin.ext ?_
    match a with
    | ⟨0, _⟩ => show 0 * 2816 + 1 * j.val = j.val; omega
    | ⟨1, _⟩ => show 0 * 1024 + 1 * k.val = k.val; omega
  show V m c main_v4 ((((cfgM m hO).win 5).blk t).view.emb (ix2 j k)) = _
  rw [h]
  unfold V
  after_reads_at

theorem blk6 (hO : Inside m) (c : Dev nD) (t : Fin (cfgM m hO).N) (k : Fin 1024) :
    iblk m hO c 6 t (ix2 0 k) = m ((c : Thread nD τ).loc main_arg6) (ix1 k) := by
  have h : (((cfgM m hO).win 6).blk t).view.emb (ix2 0 k) = ix2 0 k := by
    refine funext fun a => Fin.ext ?_
    match a with
    | ⟨0, _⟩ => show 0 * 1 + 1 * 0 = 0; omega
    | ⟨1, _⟩ => show 0 * 1024 + 1 * k.val = k.val; omega
  show V m c main_v5 ((((cfgM m hO).win 6).blk t).view.emb (ix2 0 k)) = _
  rw [h]
  unfold V
  after_reads_at

/-- A tile's block at a row and a column. -/
theorem yblk_apply (hO : Inside m) (c : Dev nD) (t : Fin (cfgM m hO).N) (r : Fin 512) (k : Fin 1024) (h : rowStart t.val + r.val < 49664) :
    yblk m hO c t (ix2 r k) = rowOut m c ⟨rowStart t.val + r.val, h⟩ k := by
  unfold yblk
  refine (endB_apply _ _ _ _ _ _ _ r k).trans ?_
  simp only [blk0 m hO c t r _ h, blk1, blk2, blk3, blk4, blk5, blk6]
  rfl

/-- Where the results' blocks sit. -/
theorem emb7 (hO : Inside m) (t : Fin (cfgM m hO).N) (r : Fin 512) (k : Fin 1024) (h : min t.val 31 * 512 + r.val < 16384) :
    (((cfgM m hO).win 7).blk t).view.emb (ix2 r k) = ix2 ⟨min t.val 31 * 512 + r.val, h⟩ k := by
  have e := places t
  refine funext fun a => Fin.ext ?_
  match a with
  | ⟨0, _⟩ => show cc0_transform_7 (grid0.coords t) (0 : Fin 2) * 512 + 1 * r.val = min t.val 31 * 512 + r.val; rw [e.1]; omega
  | ⟨1, _⟩ => show cc0_transform_7 (grid0.coords t) (1 : Fin 2) * 1024 + 1 * k.val = k.val; rw [e.2.1]; omega

theorem emb8 (hO : Inside m) (t : Fin (cfgM m hO).N) (r : Fin 512) (k : Fin 1024) (h : (t.val - 32) * 512 + r.val < 32768) :
    (((cfgM m hO).win 8).blk t).view.emb (ix2 r k) = ix2 ⟨(t.val - 32) * 512 + r.val, h⟩ k := by
  have e := places t
  refine funext fun a => Fin.ext ?_
  match a with
  | ⟨0, _⟩ => show cc0_transform_8 (grid0.coords t) (0 : Fin 2) * 512 + 1 * r.val = (t.val - 32) * 512 + r.val; rw [e.2.2.1]; omega
  | ⟨1, _⟩ => show cc0_transform_8 (grid0.coords t) (1 : Fin 2) * 1024 + 1 * k.val = k.val; rw [e.2.2.2.1]; omega

/-- The row a prompt tile takes for row `r` of its block is the one the first result wants there. -/
theorem row_prompt (n r : Nat) (hn : n < 32) (hr : r < 512) :
    rowStart n + r = 2064 * ((n * 512 + r) / 2048) + (16 + (n * 512 + r) % 2048) := by
  unfold rowStart; rw [if_pos hn]; omega
/-- The same of a sample tile. -/
theorem row_sample (n r : Nat) (hn : 32 ≤ n) (hr : r < 512) :
    rowStart n + r = 16512 + 16400 * (((n - 32) * 512 + r) / 16384) + (16 + ((n - 32) * 512 + r) % 16384) := by
  unfold rowStart; rw [if_neg (by omega)]; omega

/-- What a tile writes back is its block of the result. -/
theorem flushed7 (hO : Inside m) (c : Dev nD) (t : Fin (cfgM m hO).N) :
    (dats m hO 0 c).flushed 7 t = (((cfgM m hO).win 7).blk t).view.read (Elt Ideal) (G7 m c) := by
  have e : (dats m hO 0 c).flushed 7 t = yblk m hO c (upTo31 m hO t) := by
    show ((cfgM m hO).win 7).cut (grid0.coords t) ((dats m hO 0 c).after 7 t) = _
    rw [after7]; rfl
  rw [e]
  refine funext fun (y : S512x1024.Idx) => ?_
  obtain ⟨r, k, rfl⟩ : ∃ (r : Fin 512) (k : Fin 1024), y = ix2 r k := ⟨y 0, y 1, eq_ix2 y⟩
  have hb := start_small (min t.val 31) (by omega)
  have hr := r.isLt
  show yblk m hO c (upTo31 m hO t) (ix2 r k) = G7 m c ((((cfgM m hO).win 7).blk t).view.emb (ix2 r k))
  rw [emb7 m hO t r k (by omega), yblk_apply m hO c (upTo31 m hO t) r k (by show rowStart (min t.val 31) + r.val < 49664; omega)]
  exact congrArg (rowOut m c · k) (Fin.ext (row_prompt (min t.val 31) r.val (by omega) hr))

theorem flushed8 (hO : Inside m) (c : Dev nD) (t : Fin (cfgM m hO).N) (ht : 32 ≤ t.val) :
    (dats m hO 0 c).flushed 8 t = (((cfgM m hO).win 8).blk t).view.read (Elt Ideal) (G8 m c) := by
  have e : (dats m hO 0 c).flushed 8 t = yblk m hO c t := by
    show ((cfgM m hO).win 8).cut (grid0.coords t) ((dats m hO 0 c).after 8 t) = _
    rw [after8]; rfl
  rw [e]
  refine funext fun (y : S512x1024.Idx) => ?_
  obtain ⟨r, k, rfl⟩ : ∃ (r : Fin 512) (k : Fin 1024), y = ix2 r k := ⟨y 0, y 1, eq_ix2 y⟩
  have hN : t.val < 96 := lt_of_lt_of_eq t.isLt N_0
  have hb := start_small t.val hN
  have hr := r.isLt
  show yblk m hO c t (ix2 r k) = G8 m c ((((cfgM m hO).win 8).blk t).view.emb (ix2 r k))
  rw [emb8 m hO t r k (by omega), yblk_apply m hO c t r k (by omega)]
  exact congrArg (rowOut m c · k) (Fin.ext (row_sample t.val r.val ht hr))

/-- Every element of the first result is in a block that is written back: its own tile's, or the last tile's. -/
theorem cover7 (hO : Inside m) (i : S16384x1024.Idx) :
    ∃ t : Fin (cfgM m hO).N, ((cfgM m hO).win 7).flush t = true ∧ i ∈ (((cfgM m hO).win 7).blk t).view.set := by
  obtain ⟨r, k, rfl⟩ : ∃ (r : Fin 16384) (k : Fin 1024), i = ix2 r k := ⟨i 0, i 1, eq_ix2 i⟩
  have hr := r.isLt
  have hk := k.isLt
  have hN : (cfgM m hO).N = 96 := N_0
  have key : ∀ t : Fin (cfgM m hO).N, min t.val 31 = r.val / 512 → ix2 r k ∈ (((cfgM m hO).win 7).blk t).view.set := by
    intro t ht
    rw [show (((cfgM m hO).win 7).blk t).view.set = _ from View.set_slice_whole _ _]
    refine Rect.mem_set_unit.mpr fun a => ?_
    have e := places t
    match a with
    | ⟨0, _⟩ =>
      show cc0_transform_7 (grid0.coords t) (0 : Fin 2) * 512 ≤ r.val ∧ r.val < cc0_transform_7 (grid0.coords t) (0 : Fin 2) * 512 + 512
      rw [e.1]; omega
    | ⟨1, _⟩ =>
      show cc0_transform_7 (grid0.coords t) (1 : Fin 2) * 1024 ≤ k.val ∧ k.val < cc0_transform_7 (grid0.coords t) (1 : Fin 2) * 1024 + 1024
      rw [e.2.1]; omega
  by_cases h : r.val / 512 < 31
  · exact ⟨⟨r.val / 512, by omega⟩, (flush7 m hO _).mpr (.inl h), key _ (show min (r.val / 512) 31 = _ by omega)⟩
  · exact ⟨⟨95, by omega⟩, (flush7 m hO _).mpr (.inr rfl), key _ (show min 95 31 = _ by omega)⟩

theorem cover8 (hO : Inside m) (i : S32768x1024.Idx) :
    ∃ t : Fin (cfgM m hO).N, ((cfgM m hO).win 8).flush t = true ∧ i ∈ (((cfgM m hO).win 8).blk t).view.set := by
  obtain ⟨r, k, rfl⟩ : ∃ (r : Fin 32768) (k : Fin 1024), i = ix2 r k := ⟨i 0, i 1, eq_ix2 i⟩
  have hr := r.isLt
  have hk := k.isLt
  have hN : (cfgM m hO).N = 96 := N_0
  have key : ∀ t : Fin (cfgM m hO).N, t.val - 32 = r.val / 512 → ix2 r k ∈ (((cfgM m hO).win 8).blk t).view.set := by
    intro t ht
    rw [show (((cfgM m hO).win 8).blk t).view.set = _ from View.set_slice_whole _ _]
    refine Rect.mem_set_unit.mpr fun a => ?_
    have e := places t
    match a with
    | ⟨0, _⟩ =>
      show cc0_transform_8 (grid0.coords t) (0 : Fin 2) * 512 ≤ r.val ∧ r.val < cc0_transform_8 (grid0.coords t) (0 : Fin 2) * 512 + 512
      rw [e.2.2.1]; omega
    | ⟨1, _⟩ =>
      show cc0_transform_8 (grid0.coords t) (1 : Fin 2) * 1024 ≤ k.val ∧ k.val < cc0_transform_8 (grid0.coords t) (1 : Fin 2) * 1024 + 1024
      rw [e.2.2.2.1]; omega
  exact ⟨⟨32 + r.val / 512, by omega⟩, (flush8 m hO _).mpr (Nat.le_add_right _ _), key _ (Nat.add_sub_cancel_left _ _)⟩

/-- The run, its results named, its arguments unchanged, its counters at zero. -/
theorem run_all : θ_run (defs (F := Ideal)) (onTc (τ := τ) (main (F := Ideal))) ⟨m, fun _ => 0, ρ⟩ fun r => (∀ c : Dev nD,
      r.2.mem ((c : Thread nD τ).loc main_v6_0) = G7 m c
      ∧ r.2.mem ((c : Thread nD τ).loc main_v6_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0 :=
  (θ_run defs _ _).mono (fun _ h => ⟨fun c =>
    ⟨((h.1 c).1 7).trans ((dats m (ok m) 0 c).arrAt_eq_of_cover 7 (G7 m c) (fun t _ => flushed7 m (ok m) c t) (cover7 m (ok m))),
     ((h.1 c).1 8).trans ((dats m (ok m) 0 c).arrAt_eq_of_cover 8 (G8 m c) (fun t ht => flushed8 m (ok m) c t ((flush8 m (ok m) t).mp ht)) (cover8 m (ok m))),
     ((h.1 c).1 0).trans (((dats m (ok m) 0 c).arrAt_in 0 rfl _).trans ((A_eq m (ok m) c 0).trans (V_kept m c main_arg0 (by decide)))),
     ((h.1 c).2 main_arg1 (by decide : main_arg1 ∈ Pipeline.restRefs sig spec0)).trans (V_kept m c main_arg1 (by decide)),
     ((h.1 c).2 main_arg2 (by decide : main_arg2 ∈ Pipeline.restRefs sig spec0)).trans (V_kept m c main_arg2 (by decide)),
     ((h.1 c).2 main_arg3 (by decide : main_arg3 ∈ Pipeline.restRefs sig spec0)).trans (V_kept m c main_arg3 (by decide)),
     ((h.1 c).2 main_arg4 (by decide : main_arg4 ∈ Pipeline.restRefs sig spec0)).trans (V_kept m c main_arg4 (by decide)),
     ((h.1 c).2 main_arg5 (by decide : main_arg5 ∈ Pipeline.restRefs sig spec0)).trans (V_kept m c main_arg5 (by decide)),
     ((h.1 c).2 main_arg6 (by decide : main_arg6 ∈ Pipeline.restRefs sig spec0)).trans (V_kept m c main_arg6 (by decide))⟩, h.2⟩)
    (run_arrays m ρ (ok m))

end Cert.Last

end
-- ==== Proof.LastReference.lean ====
/- What the plain-jax reference of the last feed-forward call computes, element by element: of a prompt or a sample row,
   the final normalisation of the half step of the packed row it comes from. -/
module

public import proofs.«01_k».proof.Proof.RowMath
public import proofs.«01_k».proof.Proof.Gen.ReferenceIdeal.Run
public import Idealize.ShloMosaic.Lib.Pointwise

@[expose] public section

set_option maxRecDepth 16384

noncomputable section

namespace Cert.Last

open Cert.ReferenceIdeal Cert.ReferenceIdeal.Gen Idealize.ShloMosaic Idealize.ShloMosaic.TcCoe Idealize.SL.Sem
open Cert.RowMath

variable (m : (ℓ : Loc nD τ sig) → Buf (Elt Ideal) ℓ)

/-- The reference's RMS normalisation of the prompt rows, times its gain. -/
def normP (x : FVec Ideal S8x2064x1024 .f32) (g : FVec Ideal S1024 .f32) : FVec Ideal S8x2064x1024 .f32 :=
  mulf (mulf x (broadcastInDim S8x2064x1024 ![0, 1, 2] bcast_S8x2064x1_S8x2064x1024_0_1_2 (Host.rsqrt (addf
    (Host.divf (broadcastInDim S8x2064x1 ![0, 1] bcast_S8x2064_S8x2064x1_0_1
        (Host.reduceAdd (mulf x x) (constant S_ .f32 0x00000000#32) reducesTo_S8x2064x1024_S8x2064_d2 h_S_))
      (broadcastInDim S8x2064x1 ![] bcast_S_S8x2064x1 (constant S_ .f32 0x44800000#32)))
    (broadcastInDim S8x2064x1 ![] bcast_S_S8x2064x1 (constant S_ .f32 0x358637BD#32))))))
    (broadcastInDim S8x2064x1024 ![0, 1, 2] bcast_S1x1x1024_S8x2064x1024_0_1_2 (broadcastInDim S1x1x1024 ![2] bcast_S1024_S1x1x1024_2 g))

/-- The reference's gated feed-forward of the prompt rows. -/
def gluP (y : FVec Ideal S8x2064x1024 .f32) (wg wu : FVec Ideal S1024x2816 .f32) (wd : FVec Ideal S2816x1024 .f32) :
    FVec Ideal S8x2064x1024 .f32 :=
  let gate := Host.dotGeneral dot_S8x2064x1024_S1024x2816_S8x2064x2816_2_0_01_1_n_n none y wg
  let one : FVec Ideal S8x2064x2816 .f32 := broadcastInDim S8x2064x2816 ![] bcast_S_S8x2064x2816 (constant S_ .f32 0x3F800000#32)
  Host.dotGeneral dot_S8x2064x2816_S2816x1024_S8x2064x1024_2_0_01_1_n_n none
    (mulf (mulf gate (Host.divf one (addf one (Host.exp (Host.negf gate)))))
      (Host.dotGeneral dot_S8x2064x1024_S1024x2816_S8x2064x2816_2_0_01_1_n_n none y wu)) wd

/-- The reference's half step of the prompt rows. -/
def halfP (x : FVec Ideal S8x2064x1024 .f32) (g₁ g₂ : FVec Ideal S1024 .f32) (wg wu : FVec Ideal S1024x2816 .f32)
    (wd : FVec Ideal S2816x1024 .f32) : FVec Ideal S8x2064x1024 .f32 :=
  addf x (mulf (broadcastInDim S8x2064x1024 ![] bcast_S_S8x2064x1024 (constant S_ .f32 0x3F000000#32))
    (normP (gluP (normP x g₁) wg wu wd) g₂))

/-- The prompt rows of the packed array, one sequence after the other. -/
def takeP (h : FVec Ideal S49664x1024 .f32) : FVec Ideal S8x2064x1024 .f32 :=
  shapeCast S8x2064x1024 (extractStridedSlice S16512x1024 ![0, 0] h slices_S49664x1024_S16512x1024_0_0) shapeCasts_S16512x1024_S8x2064x1024

/-- Every sequence's rows but its first 16, one sequence after the other. -/
def dropP (y : FVec Ideal S8x2064x1024 .f32) : FVec Ideal S16384x1024 .f32 :=
  shapeCast S16384x1024 (extractStridedSlice S8x2048x1024 ![0, 16, 0] y slices_S8x2064x1024_S8x2048x1024_0_16_0) shapeCasts_S8x2048x1024_S16384x1024

theorem normP_apply (x : FVec Ideal S8x2064x1024 .f32) (g : FVec Ideal S1024 .f32) (b : Fin 8) (r : Fin 2064) (k : Fin 1024) :
    normP x g (ix3 b r k) = rms (fun k => x (ix3 b r k)) (fun k => g (ix1 k)) k := by
  unfold normP rms
  pointwise

theorem gluP_apply (y : FVec Ideal S8x2064x1024 .f32) (wg wu : FVec Ideal S1024x2816 .f32) (wd : FVec Ideal S2816x1024 .f32)
    (b : Fin 8) (r : Fin 2064) (k : Fin 1024) :
    gluP y wg wu wd (ix3 b r k) = glu (fun k => y (ix3 b r k)) (fun k j => wg (ix2 k j)) (fun k j => wu (ix2 k j))
      (fun j k => wd (ix2 j k)) k := by
  unfold gluP glu hid silu
  pointwise

theorem halfP_apply (x : FVec Ideal S8x2064x1024 .f32) (g₁ g₂ : FVec Ideal S1024 .f32) (wg wu : FVec Ideal S1024x2816 .f32)
    (wd : FVec Ideal S2816x1024 .f32) (b : Fin 8) (r : Fin 2064) (k : Fin 1024) :
    halfP x g₁ g₂ wg wu wd (ix3 b r k) = half (fun k => x (ix3 b r k)) (fun k => g₁ (ix1 k)) (fun k => g₂ (ix1 k))
      (fun k j => wg (ix2 k j)) (fun k j => wu (ix2 k j)) (fun j k => wd (ix2 j k)) k := by
  unfold halfP half
  pointwise
  rw [normP_apply]
  simp only [gluP_apply, normP_apply]

theorem takeP_apply (h : FVec Ideal S49664x1024 .f32) (b : Fin 8) (r : Fin 2064) (k : Fin 1024) :
    takeP h (ix3 b r k) = h (ix2 ⟨0 + 2064 * b.val + r.val, by omega⟩ k) := by
  unfold takeP
  pointwise
  refine congrArg h (congrArg (ix2 · k) (Fin.ext ?_))
  dsimp only
  omega

theorem dropP_apply (y : FVec Ideal S8x2064x1024 .f32) (R : Fin 16384) (k : Fin 1024) :
    dropP y (ix2 R k) = y (ix3 ⟨R.val / 2048, by omega⟩ ⟨16 + R.val % 2048, by omega⟩ k) := by
  unfold dropP
  pointwise

/-- The reference's prompt result at row `R` and column `k`: the normalised half step of the packed row it comes from. -/
theorem refP_apply (c : Dev nD) (R : Fin 16384) (k : Fin 1024) :
    Cert.ReferenceIdeal.Value.res_main_v52 m c (ix2 R k) =
      rms (half (fun k => m ((c : Thread nD τ).loc main_arg0) (ix2 ⟨0 + 2064 * (R.val / 2048) + (16 + R.val % 2048), by omega⟩ k))
        (fun k => m ((c : Thread nD τ).loc main_arg1) (ix1 k))
        (fun k => m ((c : Thread nD τ).loc main_arg2) (ix1 k)) (fun k j => m ((c : Thread nD τ).loc main_arg3) (ix2 k j))
        (fun k j => m ((c : Thread nD τ).loc main_arg4) (ix2 k j)) (fun j k => m ((c : Thread nD τ).loc main_arg5) (ix2 j k)))
        (fun k => m ((c : Thread nD τ).loc main_arg6) (ix1 k)) k := by
  have e : Cert.ReferenceIdeal.Value.res_main_v52 m c =
      dropP (normP (halfP (takeP (m ((c : Thread nD τ).loc main_arg0))) (m ((c : Thread nD τ).loc main_arg1)) (m ((c : Thread nD τ).loc main_arg2))
        (m ((c : Thread nD τ).loc main_arg3)) (m ((c : Thread nD τ).loc main_arg4)) (m ((c : Thread nD τ).loc main_arg5)))
        (m ((c : Thread nD τ).loc main_arg6))) := rfl
  rw [e]
  refine (dropP_apply _ R k).trans ?_
  rw [normP_apply]
  simp only [halfP_apply, takeP_apply]

/-- The reference's RMS normalisation of the sample rows, times its gain. -/
def normS (x : FVec Ideal S2x16400x1024 .f32) (g : FVec Ideal S1024 .f32) : FVec Ideal S2x16400x1024 .f32 :=
  mulf (mulf x (broadcastInDim S2x16400x1024 ![0, 1, 2] bcast_S2x16400x1_S2x16400x1024_0_1_2 (Host.rsqrt (addf
    (Host.divf (broadcastInDim S2x16400x1 ![0, 1] bcast_S2x16400_S2x16400x1_0_1
        (Host.reduceAdd (mulf x x) (constant S_ .f32 0x00000000#32) reducesTo_S2x16400x1024_S2x16400_d2 h_S_))
      (broadcastInDim S2x16400x1 ![] bcast_S_S2x16400x1 (constant S_ .f32 0x44800000#32)))
    (broadcastInDim S2x16400x1 ![] bcast_S_S2x16400x1 (constant S_ .f32 0x358637BD#32))))))
    (broadcastInDim S2x16400x1024 ![0, 1, 2] bcast_S1x1x1024_S2x16400x1024_0_1_2 (broadcastInDim S1x1x1024 ![2] bcast_S1024_S1x1x1024_2 g))

/-- The reference's gated feed-forward of the sample rows. -/
def gluS (y : FVec Ideal S2x16400x1024 .f32) (wg wu : FVec Ideal S1024x2816 .f32) (wd : FVec Ideal S2816x1024 .f32) :
    FVec Ideal S2x16400x1024 .f32 :=
  let gate := Host.dotGeneral dot_S2x16400x1024_S1024x2816_S2x16400x2816_2_0_01_1_n_n none y wg
  let one : FVec Ideal S2x16400x2816 .f32 := broadcastInDim S2x16400x2816 ![] bcast_S_S2x16400x2816 (constant S_ .f32 0x3F800000#32)
  Host.dotGeneral dot_S2x16400x2816_S2816x1024_S2x16400x1024_2_0_01_1_n_n none
    (mulf (mulf gate (Host.divf one (addf one (Host.exp (Host.negf gate)))))
      (Host.dotGeneral dot_S2x16400x1024_S1024x2816_S2x16400x2816_2_0_01_1_n_n none y wu)) wd

/-- The reference's half step of the sample rows. -/
def halfS (x : FVec Ideal S2x16400x1024 .f32) (g₁ g₂ : FVec Ideal S1024 .f32) (wg wu : FVec Ideal S1024x2816 .f32)
    (wd : FVec Ideal S2816x1024 .f32) : FVec Ideal S2x16400x1024 .f32 :=
  addf x (mulf (broadcastInDim S2x16400x1024 ![] bcast_S_S2x16400x1024 (constant S_ .f32 0x3F000000#32))
    (normS (gluS (normS x g₁) wg wu wd) g₂))

/-- The sample rows of the packed array, one sequence after the other. -/
def takeS (h : FVec Ideal S49664x1024 .f32) : FVec Ideal S2x16400x1024 .f32 :=
  shapeCast S2x16400x1024 (extractStridedSlice S32800x1024 ![16512, 0] h slices_S49664x1024_S32800x1024_16512_0) shapeCasts_S32800x1024_S2x16400x1024

/-- Every sequence's rows but its first 16, one sequence after the other. -/
def dropS (y : FVec Ideal S2x16400x1024 .f32) : FVec Ideal S32768x1024 .f32 :=
  shapeCast S32768x1024 (extractStridedSlice S2x16384x1024 ![0, 16, 0] y slices_S2x16400x1024_S2x16384x1024_0_16_0) shapeCasts_S2x16384x1024_S32768x1024

theorem normS_apply (x : FVec Ideal S2x16400x1024 .f32) (g : FVec Ideal S1024 .f32) (b : Fin 2) (r : Fin 16400) (k : Fin 1024) :
    normS x g (ix3 b r k) = rms (fun k => x (ix3 b r k)) (fun k => g (ix1 k)) k := by
  unfold normS rms
  pointwise

theorem gluS_apply (y : FVec Ideal S2x16400x1024 .f32) (wg wu : FVec Ideal S1024x2816 .f32) (wd : FVec Ideal S2816x1024 .f32)
    (b : Fin 2) (r : Fin 16400) (k : Fin 1024) :
    gluS y wg wu wd (ix3 b r k) = glu (fun k => y (ix3 b r k)) (fun k j => wg (ix2 k j)) (fun k j => wu (ix2 k j))
      (fun j k => wd (ix2 j k)) k := by
  unfold gluS glu hid silu
  pointwise

theorem halfS_apply (x : FVec Ideal S2x16400x1024 .f32) (g₁ g₂ : FVec Ideal S1024 .f32) (wg wu : FVec Ideal S1024x2816 .f32)
    (wd : FVec Ideal S2816x1024 .f32) (b : Fin 2) (r : Fin 16400) (k : Fin 1024) :
    halfS x g₁ g₂ wg wu wd (ix3 b r k) = half (fun k => x (ix3 b r k)) (fun k => g₁ (ix1 k)) (fun k => g₂ (ix1 k))
      (fun k j => wg (ix2 k j)) (fun k j => wu (ix2 k j)) (fun j k => wd (ix2 j k)) k := by
  unfold halfS half
  pointwise
  rw [normS_apply]
  simp only [gluS_apply, normS_apply]

theorem takeS_apply (h : FVec Ideal S49664x1024 .f32) (b : Fin 2) (r : Fin 16400) (k : Fin 1024) :
    takeS h (ix3 b r k) = h (ix2 ⟨16512 + 16400 * b.val + r.val, by omega⟩ k) := by
  unfold takeS
  pointwise
  refine congrArg h (congrArg (ix2 · k) (Fin.ext ?_))
  dsimp only
  omega

theorem dropS_apply (y : FVec Ideal S2x16400x1024 .f32) (R : Fin 32768) (k : Fin 1024) :
    dropS y (ix2 R k) = y (ix3 ⟨R.val / 16384, by omega⟩ ⟨16 + R.val % 16384, by omega⟩ k) := by
  unfold dropS
  pointwise

/-- The reference's sample result at row `R` and column `k`: the normalised half step of the packed row it comes from. -/
theorem refS_apply (c : Dev nD) (R : Fin 32768) (k : Fin 1024) :
    Cert.ReferenceIdeal.Value.res_main_v101 m c (ix2 R k) =
      rms (half (fun k => m ((c : Thread nD τ).loc main_arg0) (ix2 ⟨16512 + 16400 * (R.val / 16384) + (16 + R.val % 16384), by omega⟩ k))
        (fun k => m ((c : Thread nD τ).loc main_arg1) (ix1 k))
        (fun k => m ((c : Thread nD τ).loc main_arg2) (ix1 k)) (fun k j => m ((c : Thread nD τ).loc main_arg3) (ix2 k j))
        (fun k j => m ((c : Thread nD τ).loc main_arg4) (ix2 k j)) (fun j k => m ((c : Thread nD τ).loc main_arg5) (ix2 j k)))
        (fun k => m ((c : Thread nD τ).loc main_arg6) (ix1 k)) k := by
  have e : Cert.ReferenceIdeal.Value.res_main_v101 m c =
      dropS (normS (halfS (takeS (m ((c : Thread nD τ).loc main_arg0))) (m ((c : Thread nD τ).loc main_arg1)) (m ((c : Thread nD τ).loc main_arg2))
        (m ((c : Thread nD τ).loc main_arg3)) (m ((c : Thread nD τ).loc main_arg4)) (m ((c : Thread nD τ).loc main_arg5)))
        (m ((c : Thread nD τ).loc main_arg6))) := rfl
  rw [e]
  refine (dropS_apply _ R k).trans ?_
  rw [normS_apply]
  simp only [halfS_apply, takeS_apply]

end Cert.Last

end
-- ==== Proof.Last.lean ====
/- The claims about the last feed-forward call: its frame, its named constant, and that kernel and reference end with the
   same two results. -/
module

public import proofs.«01_k».proof.Defs
public import proofs.«01_k».proof.Proof.LastValue
public import proofs.«01_k».proof.Proof.LastReference

@[expose] public section

set_option maxRecDepth 16384

noncomputable section

namespace Cert.Last

open Idealize.ShloMosaic Idealize.ShloMosaic.TcCoe Idealize.SL.Sem

/-- The idealized call runs and leaves its arguments and counters as they were. -/
theorem quiet : Cert.quiescent_KernelIdeal := fun m g _ =>
  (θ_run (Cert.KernelIdeal.defs (F := Ideal)) _ _).mono (fun _ h => ⟨fun c => (h.1 c).2.2, h.2⟩) (run_all m g)

/-- The kernel's named constant is the value its name says. -/
theorem preserves : Cert.preserves_Kernel_KernelIdeal :=
  IdealRules.named_const.statement _ "neg_log2e" .f32 0xBFB8AA3B#32 _ rfl

/-- From arguments that agree, the kernel's two results are the reference's. -/
theorem algebraic : Cert.algebraic_KernelIdeal_ReferenceIdeal := by
  intro m g m' g' _ hagree
  refine ⟨G7 m, G8 m, (θ_run (Cert.KernelIdeal.defs (F := Ideal)) _ _).mono (fun _ h c => h.1 c) (run_all m g), ?_⟩
  refine (θ_run (Cert.ReferenceIdeal.defs (F := Ideal)) _ _).mono
    (fun _ h c => ⟨(h c).1.trans ?_, (h c).2.1.trans ?_, (h c).2.2⟩) (Cert.ReferenceIdeal.Value.run (F := Ideal) m' g')
  · obtain ⟨h0, h1, h2, h3, h4, h5, h6⟩ := hagree c
    funext i
    obtain ⟨r, k, rfl⟩ : ∃ (r : Fin 16384) (k : Fin 1024), i = ix2 r k := ⟨i 0, i 1, eq_ix2 i⟩
    refine (refP_apply m' c r k).trans ?_
    rw [h0, h1, h2, h3, h4, h5, h6]
    exact congrArg (rowOut m c · k) (Fin.ext (show 0 + 2064 * (r.val / 2048) + (16 + r.val % 2048) = 2064 * (r.val / 2048) + (16 + r.val % 2048) by omega))
  · obtain ⟨h0, h1, h2, h3, h4, h5, h6⟩ := hagree c
    funext i
    obtain ⟨r, k, rfl⟩ : ∃ (r : Fin 32768) (k : Fin 1024), i = ix2 r k := ⟨i 0, i 1, eq_ix2 i⟩
    refine (refS_apply m' c r k).trans ?_
    rw [h0, h1, h2, h3, h4, h5, h6]
    rfl

end Cert.Last

end
-- ==== Proof.MidValue.lean ====
/- What the call between two mixers computes: the packed array after the run, at row `r` and column `c`, is the feed-forward
   half step of row `r` of the argument (`RowMath.half`). -/
module

public import proofs.«01_k».proof.Proof.RowBlock
public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Mid

open Cert.Kernel2Ideal Cert.Kernel2Ideal.Gen Idealize.ShloMosaic Idealize.ShloMosaic.TcCoe Idealize.SL.Sem
open Cert.RowMath Cert.RowBlock

variable (m : (ℓ : Loc nD τ sig) → Buf (Elt Ideal) ℓ) (ρ : Dev nD → PrngReg)

/-- The body's result for its output window is the block's half step, by unfolding. -/
theorem out_eq (x0 : Vec Ideal S512x1024 .f32) (x1 x2 : Vec Ideal S1x1024 .f32) (x3 x4 : Vec Ideal S1024x2816 .bf16)
    (x5 : Vec Ideal S2816x1024 .bf16) :
    out0_6 x0 x1 x2 x3 x4 x5 = halfB (F := Ideal) ((-((Real.log 2)⁻¹) : ℝ) : EReal) x0 x1 x2 x3 x4 x5 := by
  unfold_out out0_6
  rw [View.canon_cons_unit_lit _ _ _ (by decide), View.ld_unit_lit _ x0 (by decide), View.ld_unit_lit _ x1 (by decide),
    View.ld_unit_lit _ x2 (by decide)]
  rfl

/-- Where the windows sit at a point: rows from 512 times the point, everything else whole. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The result: the half step of every row. -/
def G (c : Dev nD) : S49664x1024.Idx → EReal := fun i =>
  half (fun k => m ((c : Thread nD τ).loc main_arg0) (ix2 (i 0) k)) (fun k => m ((c : Thread nD τ).loc main_arg1) (ix1 k))
    (fun k => m ((c : Thread nD τ).loc main_arg2) (ix1 k)) (fun k j => m ((c : Thread nD τ).loc main_arg3) (ix2 k j))
    (fun k j => m ((c : Thread nD τ).loc main_arg4) (ix2 k j)) (fun j k => m ((c : Thread nD τ).loc main_arg5) (ix2 j k)) (i 1)

theorem blk0 (c : Dev nD) (t : Fin cfg0.N) (r : Fin 512) (k : Fin 1024) (h : 512 * t.val + r.val < 49664) :
    iblk m c 0 t (ix2 r k) = m ((c : Thread nD τ).loc main_arg0) (ix2 ⟨512 * t.val + r.val, h⟩ k) := by
  show V m c main_arg0 (((cfg0.win 0).blk t).view.emb (ix2 r k)) = _
  rw [V_main_arg0]
  refine congrArg _ (funext fun a => Fin.ext ?_)
  have e := idx_facts t
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (c : Dev nD) (t : Fin cfg0.N) (k : Fin 1024) :
    iblk m c 1 t (ix2 0 k) = m ((c : Thread nD τ).loc main_arg1) (ix1 k) := by
  have h : ((cfg0.win 1).blk t).view.emb (ix2 0 k) = ix2 0 k := by
    have e := idx_facts t
    refine funext fun a => Fin.ext ?_
    match a with
    | ⟨0, _⟩ => show win0_1.index t (0 : Fin 2) * 1 + 1 * 0 = 0; omega
    | ⟨1, _⟩ => show win0_1.index t (1 : Fin 2) * 1024 + 1 * k.val = k.val; omega
  show V m c main_v0 (((cfg0.win 1).blk t).view.emb (ix2 0 k)) = _
  rw [h]
  unfold V
  after_reads_at

theorem blk2 (c : Dev nD) (t : Fin cfg0.N) (k : Fin 1024) :
    iblk m c 2 t (ix2 0 k) = m ((c : Thread nD τ).loc main_arg2) (ix1 k) := by
  have h : ((cfg0.win 2).blk t).view.emb (ix2 0 k) = ix2 0 k := by
    have e := idx_facts t
    refine funext fun a => Fin.ext ?_
    match a with
    | ⟨0, _⟩ => show win0_2.index t (0 : Fin 2) * 1 + 1 * 0 = 0; omega
    | ⟨1, _⟩ => show win0_2.index t (1 : Fin 2) * 1024 + 1 * k.val = k.val; omega
  show V m c main_v1 (((cfg0.win 2).blk t).view.emb (ix2 0 k)) = _
  rw [h]
  unfold V
  after_reads_at

theorem blk3 (c : Dev nD) (t : Fin cfg0.N) (k : Fin 1024) (j : Fin 2816) :
    iblk m c 3 t (ix2 k j) = m ((c : Thread nD τ).loc main_arg3) (ix2 k j) := by
  have h : ((cfg0.win 3).blk t).view.emb (ix2 k j) = ix2 k j := by
    have e := idx_facts t
    refine funext fun a => Fin.ext ?_
    match a with
    | ⟨0, _⟩ => show win0_3.index t (0 : Fin 2) * 1024 + 1 * k.val = k.val; omega
    | ⟨1, _⟩ => show win0_3.index t (1 : Fin 2) * 2816 + 1 * j.val = j.val; omega
  show V m c main_v2 (((cfg0.win 3).blk t).view.emb (ix2 k j)) = _
  rw [h]
  unfold V
  after_reads_at

theorem blk4 (c : Dev nD) (t : Fin cfg0.N) (k : Fin 1024) (j : Fin 2816) :
    iblk m c 4 t (ix2 k j) = m ((c : Thread nD τ).loc main_arg4) (ix2 k j) := by
  have h : ((cfg0.win 4).blk t).view.emb (ix2 k j) = ix2 k j := by
    have e := idx_facts t
    refine funext fun a => Fin.ext ?_
    match a with
    | ⟨0, _⟩ => show win0_4.index t (0 : Fin 2) * 1024 + 1 * k.val = k.val; omega
    | ⟨1, _⟩ => show win0_4.index t (1 : Fin 2) * 2816 + 1 * j.val = j.val; omega
  show V m c main_v3 (((cfg0.win 4).blk t).view.emb (ix2 k j)) = _
  rw [h]
  unfold V
  after_reads_at

theorem blk5 (c : Dev nD) (t : Fin cfg0.N) (j : Fin 2816) (k : Fin 1024) :
    iblk m c 5 t (ix2 j k) = m ((c : Thread nD τ).loc main_arg5) (ix2 j k) := by
  have h : ((cfg0.win 5).blk t).view.emb (ix2 j k) = ix2 j k := by
    have e := idx_facts t
    refine funext fun a => Fin.ext ?_
    match a with
    | ⟨0, _⟩ => show win0_5.index t (0 : Fin 2) * 2816 + 1 * j.val = j.val; omega
    | ⟨1, _⟩ => show win0_5.index t (1 : Fin 2) * 1024 + 1 * k.val = k.val; omega
  show V m c main_v4 (((cfg0.win 5).blk t).view.emb (ix2 j k)) = _
  rw [h]
  unfold V
  after_reads_at

/-- What a point writes back is its block of `G`. -/
theorem flushed_eq (c : Dev nD) (t : Fin cfg0.N) :
    (dats m 0 c).flushed 6 t = ((cfg0.win 6).blk t).view.read (Elt Ideal) (G m c) := by
  rw [Value.flushed6, out_eq]
  funext y
  obtain ⟨r, k, rfl⟩ : ∃ (r : Fin 512) (k : Fin 1024), y = ix2 r k := ⟨y 0, y 1, eq_ix2 y⟩
  have ht : t.val < 97 := lt_of_lt_of_eq t.isLt N_0
  have h : 512 * t.val + r.val < 49664 := by omega
  have he : ((cfg0.win 6).blk t).view.emb (ix2 r k) = ix2 ⟨512 * t.val + r.val, h⟩ k := by
    have e := idx_facts t
    refine funext fun a => Fin.ext ?_
    match a with
    | ⟨0, _⟩ => show win0_6.index t (0 : Fin 2) * 512 + 1 * r.val = 512 * t.val + r.val; omega
    | ⟨1, _⟩ => show win0_6.index t (1 : Fin 2) * 1024 + 1 * k.val = k.val; omega
  show halfB (F := Ideal) _ _ _ _ _ _ _ (ix2 r k) = G m c (((cfg0.win 6).blk t).view.emb (ix2 r k))
  rw [he, halfB_apply]
  simp only [blk0 m c t r _ h, blk1, blk2, blk3, blk4, blk5]
  rfl

/-- Every element is in the block of the point its row falls in. -/
theorem cover (i : S49664x1024.Idx) : ∃ t : Fin cfg0.N, (cfg0.win 6).flush t = true ∧ i ∈ ((cfg0.win 6).blk t).view.set := by
  obtain ⟨r, k, rfl⟩ : ∃ (r : Fin 49664) (k : Fin 1024), i = ix2 r k := ⟨i 0, i 1, eq_ix2 i⟩
  have hr := r.isLt
  refine ⟨⟨r.val / 512, by rw [show cfg0.N = 97 from N_0]; omega⟩, flush0_6 _, ?_⟩
  have hk := k.isLt
  rw [show ((cfg0.win 6).blk _).view.set = _ from View.set_slice_whole _ _]
  refine Rect.mem_set_unit.mpr fun a => ?_
  have e := idx_facts ⟨r.val / 512, by rw [show cfg0.N = 97 from N_0]; omega⟩
  match a with
  | ⟨0, _⟩ =>
    show win0_6.index _ (0 : Fin 2) * 512 ≤ r.val ∧ r.val < win0_6.index _ (0 : Fin 2) * 512 + 512
    simp only at e
    omega
  | ⟨1, _⟩ =>
    show win0_6.index _ (1 : Fin 2) * 1024 ≤ k.val ∧ k.val < win0_6.index _ (1 : Fin 2) * 1024 + 1024
    omega

/-- The run, its result named: the half step of every row. -/
theorem run : θ_run (defs (F := Ideal)) (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 6 (G m c) (fun t _ => flushed_eq m c t) cover), (h c).2⟩)
    (Value.run_blocks (F := Ideal) m ρ)

end Cert.Mid

end
-- ==== Proof.MidReference.lean ====
/- What the plain-jax reference of the call between two mixers computes, element by element: the same half step. -/
module

public import proofs.«01_k».proof.Proof.RowMath
public import proofs.«01_k».proof.Proof.Gen.Reference2Ideal.Run
public import Idealize.ShloMosaic.Lib.Pointwise

@[expose] public section

set_option maxRecDepth 16384

noncomputable section

namespace Cert.Mid

open Cert.Reference2Ideal Cert.Reference2Ideal.Gen Idealize.ShloMosaic Idealize.ShloMosaic.TcCoe Idealize.SL.Sem
open Cert.RowMath

/-- The reference's RMS normalisation of all rows, times its gain. -/
def normH (x : FVec Ideal S49664x1024 .f32) (g : FVec Ideal S1024 .f32) : FVec Ideal S49664x1024 .f32 :=
  mulf (mulf x (broadcastInDim S49664x1024 ![0, 1] bcast_S49664x1_S49664x1024_0_1 (Host.rsqrt (addf
    (Host.divf (broadcastInDim S49664x1 ![0] bcast_S49664_S49664x1_0
        (Host.reduceAdd (mulf x x) (constant S_ .f32 0x00000000#32) reducesTo_S49664x1024_S49664_d1 h_S_))
      (broadcastInDim S49664x1 ![] bcast_S_S49664x1 (constant S_ .f32 0x44800000#32)))
    (broadcastInDim S49664x1 ![] bcast_S_S49664x1 (constant S_ .f32 0x358637BD#32))))))
    (broadcastInDim S49664x1024 ![0, 1] bcast_S1x1024_S49664x1024_0_1 (broadcastInDim S1x1024 ![1] bcast_S1024_S1x1024_1 g))

/-- The reference's gated feed-forward of all rows. -/
def gluH (y : FVec Ideal S49664x1024 .f32) (wg wu : FVec Ideal S1024x2816 .f32) (wd : FVec Ideal S2816x1024 .f32) :
    FVec Ideal S49664x1024 .f32 :=
  let gate := Host.dotGeneral dot_S49664x1024_S1024x2816_S49664x2816_1_0_0_1_n_n none y wg
  let one : FVec Ideal S49664x2816 .f32 := broadcastInDim S49664x2816 ![] bcast_S_S49664x2816 (constant S_ .f32 0x3F800000#32)
  Host.dotGeneral dot_S49664x2816_S2816x1024_S49664x1024_1_0_0_1_n_n none
    (mulf (mulf gate (Host.divf one (addf one (Host.exp (Host.negf gate)))))
      (Host.dotGeneral dot_S49664x1024_S1024x2816_S49664x2816_1_0_0_1_n_n none y wu)) wd

theorem normH_apply (x : FVec Ideal S49664x1024 .f32) (g : FVec Ideal S1024 .f32) (r : Fin 49664) (k : Fin 1024) :
    normH x g (ix2 r k) = rms (fun k => x (ix2 r k)) (fun k => g (ix1 k)) k := by
  unfold normH rms
  pointwise

theorem gluH_apply (y : FVec Ideal S49664x1024 .f32) (wg wu : FVec Ideal S1024x2816 .f32) (wd : FVec Ideal S2816x1024 .f32)
    (r : Fin 49664) (k : Fin 1024) :
    gluH y wg wu wd (ix2 r k) = glu (fun k => y (ix2 r k)) (fun k j => wg (ix2 k j)) (fun k j => wu (ix2 k j))
      (fun j k => wd (ix2 j k)) k := by
  unfold gluH glu hid silu
  pointwise

/-- The reference's half step of all rows. -/
def halfH (x : FVec Ideal S49664x1024 .f32) (g₁ g₂ : FVec Ideal S1024 .f32) (wg wu : FVec Ideal S1024x2816 .f32)
    (wd : FVec Ideal S2816x1024 .f32) : FVec Ideal S49664x1024 .f32 :=
  addf x (mulf (broadcastInDim S49664x1024 ![] bcast_S_S49664x1024 (constant S_ .f32 0x3F000000#32))
    (normH (gluH (normH x g₁) wg wu wd) g₂))

theorem halfH_apply (x : FVec Ideal S49664x1024 .f32) (g₁ g₂ : FVec Ideal S1024 .f32) (wg wu : FVec Ideal S1024x2816 .f32)
    (wd : FVec Ideal S2816x1024 .f32) (r : Fin 49664) (k : Fin 1024) :
    halfH x g₁ g₂ wg wu wd (ix2 r k) = half (fun k => x (ix2 r k)) (fun k => g₁ (ix1 k)) (fun k => g₂ (ix1 k))
      (fun k j => wg (ix2 k j)) (fun k j => wu (ix2 k j)) (fun j k => wd (ix2 j k)) k := by
  unfold halfH half
  pointwise
  rw [normH_apply]
  simp only [gluH_apply, normH_apply]

variable (m : (ℓ : Loc nD τ sig) → Buf (Elt Ideal) ℓ)

/-- The reference's result at row `r` and column `c'`. -/
theorem ref_apply (c : Dev nD) (r : Fin 49664) (k : Fin 1024) :
    Cert.Reference2Ideal.Value.res_main_v33 m c (ix2 r k) =
      half (fun k => m ((c : Thread nD τ).loc main_arg0) (ix2 r k)) (fun k => m ((c : Thread nD τ).loc main_arg1) (ix1 k))
        (fun k => m ((c : Thread nD τ).loc main_arg2) (ix1 k)) (fun k j => m ((c : Thread nD τ).loc main_arg3) (ix2 k j))
        (fun k j => m ((c : Thread nD τ).loc main_arg4) (ix2 k j)) (fun j k => m ((c : Thread nD τ).loc main_arg5) (ix2 j k)) k := by
  have e : Cert.Reference2Ideal.Value.res_main_v33 m c =
      halfH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := rfl
  rw [e]
  exact halfH_apply _ _ _ _ _ _ r k

end Cert.Mid

end
-- ==== Proof.Mid.lean ====
/- The claim about the values of the call between two mixers: kernel and reference end with the same packed array. -/
module

public import proofs.«01_k».proof.Defs
public import proofs.«01_k».proof.Proof.MidValue
public import proofs.«01_k».proof.Proof.MidReference

@[expose] public section

set_option maxRecDepth 16384

noncomputable section

namespace Cert.Mid

open Idealize.ShloMosaic Idealize.ShloMosaic.TcCoe Idealize.SL.Sem

/-- The kernel's named constant is the value its name says. -/
theorem preserves : Cert.preserves_Kernel2_Kernel2Ideal :=
  IdealRules.named_const.statement _ "neg_log2e" .f32 0xBFB8AA3B#32 _ rfl

/-- From arguments that agree, the kernel's result is the reference's. -/
theorem algebraic : Cert.algebraic_Kernel2Ideal_Reference2Ideal := by
  intro m g m' g' _ hagree
  refine ⟨G m, run m g, ?_⟩
  refine (θ_run (Cert.Reference2Ideal.defs (F := Ideal)) _ _).mono (fun _ h c => ⟨(h c).1.trans ?_, (h c).2⟩)
    (Cert.Reference2Ideal.Value.run (F := Ideal) m' g')
  obtain ⟨h0, h1, h2, h3, h4, h5⟩ := hagree c
  funext i
  obtain ⟨r, k, rfl⟩ : ∃ (r : Fin 49664) (k : Fin 1024), i = ix2 r k := ⟨i 0, i 1, eq_ix2 i⟩
  refine (ref_apply m' c r k).trans ?_
  rw [h0, h1, h2, h3, h4, h5]
  rfl

end Cert.Mid

end
-- ==== Proof.GateValue.lean ====
/- What the first call of the convolution mixer computes: of every row of the packed array its normalisation projected to 3072
   columns, of which the first 1024 are the first result, and the products of the second 1024 with the last the second. -/
module

public import proofs.«01_k».proof.Proof.RowBlock
public import proofs.«01_k».proof.Proof.Gen.Kernel3Ideal.Value
public import Idealize.ShloMosaic.Lib.Pipeline.ValueKit
public import Idealize.ShloMosaic.Lib.StableHlo.ReadAt

@[expose] public section

set_option maxRecDepth 16384

noncomputable section

namespace Cert.Gate

open Cert.Kernel3Ideal Cert.Kernel3Ideal.Gen Idealize.ShloMosaic Idealize.ShloMosaic.TcCoe Idealize.SL.Sem
open Cert.RowMath Cert.RowBlock

/-- Column `j` of a row's projection. -/
def proj (x g : Fin 1024 → EReal) (w : Fin 1024 → Fin 3072 → EReal) (j : Fin 3072) : EReal := ∑ k, rms x g k * w k j

/-- Column `c` of a row's first result, and of its second. -/
def gateOf (x g : Fin 1024 → EReal) (w : Fin 1024 → Fin 3072 → EReal) (c : Fin 1024) : EReal := proj x g w ⟨c.val, by omega⟩
def convOf (x g : Fin 1024 → EReal) (w : Fin 1024 → Fin 3072 → EReal) (c : Fin 1024) : EReal :=
  proj x g w ⟨1024 + c.val, by omega⟩ * proj x g w ⟨2048 + c.val, by omega⟩

theorem castW : S1024x3072.ShapeCasts S1024x3072 := by decide

/-- The projection of a block of rows. -/
def projB (x : FVec Ideal SX .f32) (g : FVec Ideal SG .f32) (w : FVec Ideal S1024x3072 .bf16) : FVec Ideal S512x3072 .f32 :=
  matmul (DotDims.plain 512 1024 3072) none (truncf .bf16 (normB x g) less) (shapeCast S1024x3072 w castW)
    (constant S512x3072 .f32 0x00000000#32)

theorem projB_apply (x : FVec Ideal SX .f32) (g : FVec Ideal SG .f32) (w : FVec Ideal S1024x3072 .bf16) (r : Fin 512) (j : Fin 3072) :
    projB x g w (ix2 r j) = proj (fun k => x (ix2 r k)) (fun k => g (ix2 0 k)) (fun k j => w (ix2 k j)) j := by
  unfold projB proj
  pointwise [normB_apply]

variable (m : (ℓ : Loc nD τ sig) → Buf (Elt Ideal) ℓ) (ρ : Dev nD → PrngReg)

/-- The bodies' results for the two output windows, at an index. -/
theorem gate_apply (x0 : Vec Ideal S512x1024 .f32) (x1 : Vec Ideal S1x1024 .f32) (x2 : Vec Ideal S1024x3072 .bf16) (r : Fin 512) (k : Fin 1024) :
    out0_3 x0 x1 x2 (ix2 r k) = gateOf (fun k => x0 (ix2 r k)) (fun k => x1 (ix2 0 k)) (fun k j => x2 (ix2 k j)) k := by
  unfold out0_3
  rw [View.canon_cons_unit_lit _ _ _ (by decide), View.ld_unit_lit _ x0 (by decide), View.ld_unit_lit _ x1 (by decide),
    View.ld_unit_lit _ x2 (by decide)]
  show extractStridedSlice S512x1024 ![0, 0] (projB x0 x1 x2) slices_S512x3072_o0_0_S512x1024 (ix2 r k) = _
  unfold gateOf
  rw [← projB_apply]
  pointwise

theorem conv_apply (x0 : Vec Ideal S512x1024 .f32) (x1 : Vec Ideal S1x1024 .f32) (x2 : Vec Ideal S1024x3072 .bf16) (r : Fin 512) (k : Fin 1024) :
    out0_4 x0 x1 x2 (ix2 r k) = convOf (fun k => x0 (ix2 r k)) (fun k => x1 (ix2 0 k)) (fun k j => x2 (ix2 k j)) k := by
  unfold out0_4
  rw [View.canon_cons_unit_lit _ _ _ (by decide), View.ld_unit_lit _ x0 (by decide), View.ld_unit_lit _ x1 (by decide),
    View.ld_unit_lit _ x2 (by decide)]
  show mulf (extractStridedSlice S512x1024 ![0, 1024] (projB x0 x1 x2) slices_S512x3072_o0_1024_S512x1024)
    (extractStridedSlice S512x1024 ![0, 2048] (projB x0 x1 x2) slices_S512x3072_o0_2048_S512x1024) (ix2 r k) = _
  unfold convOf
  rw [← projB_apply, ← projB_apply]
  pointwise

/-- Where the windows sit at a point: rows from 512 times the point, everything else whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The two results. -/
def G₁ (c : Dev nD) : S49664x1024.Idx → EReal := fun i =>
  gateOf (fun k => m ((c : Thread nD τ).loc main_arg0) (ix2 (i 0) k)) (fun k => m ((c : Thread nD τ).loc main_arg1) (ix1 k))
    (fun k j => m ((c : Thread nD τ).loc main_arg2) (ix2 k j)) (i 1)
def G₂ (c : Dev nD) : S49664x1024.Idx → EReal := fun i =>
  convOf (fun k => m ((c : Thread nD τ).loc main_arg0) (ix2 (i 0) k)) (fun k => m ((c : Thread nD τ).loc main_arg1) (ix1 k))
    (fun k j => m ((c : Thread nD τ).loc main_arg2) (ix2 k j)) (i 1)

theorem blk0 (c : Dev nD) (t : Fin cfg0.N) (r : Fin 512) (k : Fin 1024) (h : 512 * t.val + r.val < 49664) :
    iblk m c 0 t (ix2 r k) = m ((c : Thread nD τ).loc main_arg0) (ix2 ⟨512 * t.val + r.val, h⟩ k) := by
  show V m c main_arg0 (((cfg0.win 0).blk t).view.emb (ix2 r k)) = _
  rw [V_main_arg0]
  refine congrArg _ (funext fun a => Fin.ext ?_)
  have e := idx_facts t
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (c : Dev nD) (t : Fin cfg0.N) (k : Fin 1024) :
    iblk m c 1 t (ix2 0 k) = m ((c : Thread nD τ).loc main_arg1) (ix1 k) := by
  have h : ((cfg0.win 1).blk t).view.emb (ix2 0 k) = ix2 0 k := by
    have e := idx_facts t
    refine funext fun a => Fin.ext ?_
    match a with
    | ⟨0, _⟩ => show win0_1.index t (0 : Fin 2) * 1 + 1 * 0 = 0; omega
    | ⟨1, _⟩ => show win0_1.index t (1 : Fin 2) * 1024 + 1 * k.val = k.val; omega
  show V m c main_v0 (((cfg0.win 1).blk t).view.emb (ix2 0 k)) = _
  rw [h]
  unfold V
  after_reads_at

theorem blk2 (c : Dev nD) (t : Fin cfg0.N) (k : Fin 1024) (j : Fin 3072) :
    iblk m c 2 t (ix2 k j) = m ((c : Thread nD τ).loc main_arg2) (ix2 k j) := by
  have h : ((cfg0.win 2).blk t).view.emb (ix2 k j) = ix2 k j := by
    have e := idx_facts t
    refine funext fun a => Fin.ext ?_
    match a with
    | ⟨0, _⟩ => show win0_2.index t (0 : Fin 2) * 1024 + 1 * k.val = k.val; omega
    | ⟨1, _⟩ => show win0_2.index t (1 : Fin 2) * 3072 + 1 * j.val = j.val; omega
  show V m c main_v1 (((cfg0.win 2).blk t).view.emb (ix2 k j)) = _
  rw [h]
  unfold V
  after_reads_at

theorem bound (t : Fin cfg0.N) (r : Fin 512) : 512 * t.val + r.val < 49664 := by
  have ht : t.val < 97 := lt_of_lt_of_eq t.isLt N_0
  omega

/-- Where an output window's block holds row `r` at a point. -/
theorem emb3 (t : Fin cfg0.N) (r : Fin 512) (k : Fin 1024) :
    ((cfg0.win 3).blk t).view.emb (ix2 r k) = ix2 ⟨512 * t.val + r.val, bound t r⟩ k := by
  have e := idx_facts t
  refine funext fun a => Fin.ext ?_
  match a with
  | ⟨0, _⟩ => show win0_3.index t (0 : Fin 2) * 512 + 1 * r.val = 512 * t.val + r.val; omega
  | ⟨1, _⟩ => show win0_3.index t (1 : Fin 2) * 1024 + 1 * k.val = k.val; omega
theorem emb4 (t : Fin cfg0.N) (r : Fin 512) (k : Fin 1024) :
    ((cfg0.win 4).blk t).view.emb (ix2 r k) = ix2 ⟨512 * t.val + r.val, bound t r⟩ k := by
  have e := idx_facts t
  refine funext fun a => Fin.ext ?_
  match a with
  | ⟨0, _⟩ => show win0_4.index t (0 : Fin 2) * 512 + 1 * r.val = 512 * t.val + r.val; omega
  | ⟨1, _⟩ => show win0_4.index t (1 : Fin 2) * 1024 + 1 * k.val = k.val; omega

/-- What a point writes back is its block of the results. -/
theorem flushed_gate (c : Dev nD) (t : Fin cfg0.N) :
    (dats m 0 c).flushed 3 t = ((cfg0.win 3).blk t).view.read (Elt Ideal) (G₁ m c) := by
  rw [Value.flushed3]
  funext y
  obtain ⟨r, k, rfl⟩ : ∃ (r : Fin 512) (k : Fin 1024), y = ix2 r k := ⟨y 0, y 1, eq_ix2 y⟩
  show out0_3 (F := Ideal) _ _ _ (ix2 r k) = G₁ m c (((cfg0.win 3).blk t).view.emb (ix2 r k))
  rw [emb3, gate_apply]
  simp only [blk0 m c t r _ (bound t r), blk1, blk2]
  rfl
theorem flushed_conv (c : Dev nD) (t : Fin cfg0.N) :
    (dats m 0 c).flushed 4 t = ((cfg0.win 4).blk t).view.read (Elt Ideal) (G₂ m c) := by
  rw [Value.flushed4]
  funext y
  obtain ⟨r, k, rfl⟩ : ∃ (r : Fin 512) (k : Fin 1024), y = ix2 r k := ⟨y 0, y 1, eq_ix2 y⟩
  show out0_4 (F := Ideal) _ _ _ (ix2 r k) = G₂ m c (((cfg0.win 4).blk t).view.emb (ix2 r k))
  rw [emb4, conv_apply]
  simp only [blk0 m c t r _ (bound t r), blk1, blk2]
  rfl

/-- Every element is in the block of the point its row falls in. -/
theorem cover3 (i : S49664x1024.Idx) : ∃ t : Fin cfg0.N, (cfg0.win 3).flush t = true ∧ i ∈ ((cfg0.win 3).blk t).view.set := by
  obtain ⟨r, k, rfl⟩ : ∃ (r : Fin 49664) (k : Fin 1024), i = ix2 r k := ⟨i 0, i 1, eq_ix2 i⟩
  have hr := r.isLt
  have hk := k.isLt
  refine ⟨⟨r.val / 512, by rw [show cfg0.N = 97 from N_0]; omega⟩, flush0_3 _, ?_⟩
  rw [show ((cfg0.win 3).blk _).view.set = _ from View.set_slice_whole _ _]
  refine Rect.mem_set_unit.mpr fun a => ?_
  have e := idx_facts ⟨r.val / 512, by rw [show cfg0.N = 97 from N_0]; omega⟩
  simp only at e
  match a with
  | ⟨0, _⟩ => show win0_3.index _ (0 : Fin 2) * 512 ≤ r.val ∧ r.val < win0_3.index _ (0 : Fin 2) * 512 + 512; omega
  | ⟨1, _⟩ => show win0_3.index _ (1 : Fin 2) * 1024 ≤ k.val ∧ k.val < win0_3.index _ (1 : Fin 2) * 1024 + 1024; omega
theorem cover4 (i : S49664x1024.Idx) : ∃ t : Fin cfg0.N, (cfg0.win 4).flush t = true ∧ i ∈ ((cfg0.win 4).blk t).view.set := by
  obtain ⟨r, k, rfl⟩ : ∃ (r : Fin 49664) (k : Fin 1024), i = ix2 r k := ⟨i 0, i 1, eq_ix2 i⟩
  have hr := r.isLt
  have hk := k.isLt
  refine ⟨⟨r.val / 512, by rw [show cfg0.N = 97 from N_0]; omega⟩, flush0_4 _, ?_⟩
  rw [show ((cfg0.win 4).blk _).view.set = _ from View.set_slice_whole _ _]
  refine Rect.mem_set_unit.mpr fun a => ?_
  have e := idx_facts ⟨r.val / 512, by rw [show cfg0.N = 97 from N_0]; omega⟩
  simp only at e
  match a with
  | ⟨0, _⟩ => show win0_4.index _ (0 : Fin 2) * 512 ≤ r.val ∧ r.val < win0_4.index _ (0 : Fin 2) * 512 + 512; omega
  | ⟨1, _⟩ => show win0_4.index _ (1 : Fin 2) * 1024 ≤ k.val ∧ k.val < win0_4.index _ (1 : Fin 2) * 1024 + 1024; omega

/-- The run, its two results named. -/
theorem run : θ_run (defs (F := Ideal)) (onTc (τ := τ) (main (F := Ideal))) ⟨m, fun _ => 0, ρ⟩ fun r => ∀ c : Dev nD,
      r.2.mem ((c : Thread nD τ).loc main_v2_0) = G₁ m c
      ∧ r.2.mem ((c : Thread nD τ).loc main_v2_1) = G₂ m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G₁ m c) (fun t _ => flushed_gate m c t) cover3),
      (h c).2.1.trans ((dats m 0 c).arrAt_eq_of_cover 4 (G₂ m c) (fun t _ => flushed_conv m c t) cover4), (h c).2.2⟩)
    (Value.run_blocks (F := Ideal) m ρ)

end Cert.Gate

end
-- ==== Proof.Gate.lean ====
/- The claims about the first call of the convolution mixer: what its plain-jax reference computes, element by element, and that
   the call ends with the same two arrays. -/
module

public import proofs.«01_k».proof.Defs
public import proofs.«01_k».proof.Proof.GateValue
public import proofs.«01_k».proof.Proof.Gen.Reference3Ideal.Run
public import Idealize.ShloMosaic.Lib.Pointwise
public import Idealize.ShloMosaic.Lib.Quiescent

@[expose] public section

set_option maxRecDepth 16384

noncomputable section

namespace Cert.Gate

open Idealize.ShloMosaic Idealize.ShloMosaic.TcCoe Idealize.SL.Sem
open Cert.RowMath

section Reference

open Cert.Reference3Ideal Cert.Reference3Ideal.Gen

/-- The reference's normalisation of all rows, projected. -/
def projH (x : FVec Ideal S49664x1024 .f32) (g : FVec Ideal S1024 .f32) (w : FVec Ideal S1024x3072 .f32) : FVec Ideal S49664x3072 .f32 :=
  Host.dotGeneral dot_S49664x1024_S1024x3072_S49664x3072_1_0_0_1_n_n none
    (mulf (mulf x (broadcastInDim S49664x1024 ![0, 1] bcast_S49664x1_S49664x1024_0_1 (Host.rsqrt (addf
      (Host.divf (broadcastInDim S49664x1 ![0] bcast_S49664_S49664x1_0
          (Host.reduceAdd (mulf x x) (constant S_ .f32 0x00000000#32) reducesTo_S49664x1024_S49664_d1 h_S_))
        (broadcastInDim S49664x1 ![] bcast_S_S49664x1 (constant S_ .f32 0x44800000#32)))
      (broadcastInDim S49664x1 ![] bcast_S_S49664x1 (constant S_ .f32 0x358637BD#32))))))
      (broadcastInDim S49664x1024 ![0, 1] bcast_S1x1024_S49664x1024_0_1 (broadcastInDim S1x1024 ![1] bcast_S1024_S1x1024_1 g))) w

theorem projH_apply (x : FVec Ideal S49664x1024 .f32) (g : FVec Ideal S1024 .f32) (w : FVec Ideal S1024x3072 .f32)
    (r : Fin 49664) (j : Fin 3072) :
    projH x g w (ix2 r j) = proj (fun k => x (ix2 r k)) (fun k => g (ix1 k)) (fun k j => w (ix2 k j)) j := by
  unfold projH proj rms
  pointwise

theorem gateH_apply (x : FVec Ideal S49664x1024 .f32) (g : FVec Ideal S1024 .f32) (w : FVec Ideal S1024x3072 .f32)
    (r : Fin 49664) (k : Fin 1024) :
    extractStridedSlice S49664x1024 ![0, 0] (projH x g w) slices_S49664x3072_S49664x1024_0_0 (ix2 r k)
      = gateOf (fun k => x (ix2 r k)) (fun k => g (ix1 k)) (fun k j => w (ix2 k j)) k := by
  unfold gateOf
  rw [← projH_apply]
  pointwise

theorem convH_apply (x : FVec Ideal S49664x1024 .f32) (g : FVec Ideal S1024 .f32) (w : FVec Ideal S1024x3072 .f32)
    (r : Fin 49664) (k : Fin 1024) :
    mulf (extractStridedSlice S49664x1024 ![0, 1024] (projH x g w) slices_S49664x3072_S49664x1024_0_1024)
        (extractStridedSlice S49664x1024 ![0, 2048] (projH x g w) slices_S49664x3072_S49664x1024_0_2048) (ix2 r k)
      = convOf (fun k => x (ix2 r k)) (fun k => g (ix1 k)) (fun k j => w (ix2 k j)) k := by
  unfold convOf
  rw [← projH_apply, ← projH_apply]
  pointwise

end Reference

/-- The reference has no counter. -/
theorem quiet_ref : @Cert.quiescent_Reference3Ideal Cert.Reference3Ideal.Gen.facts := fun m g _ =>
  (θ_run (Cert.Reference3Ideal.defs (F := Ideal)) _ _).mono (fun r h => ⟨fun c => (h c).2.2, sem_eq_zero_of_no_sems rfl r.2⟩)
    (Cert.Reference3Ideal.Value.run (F := Ideal) m g)

/-- From arguments that agree, the kernel's two results are the reference's. -/
theorem algebraic : Cert.algebraic_Kernel3Ideal_Reference3Ideal := by
  intro m g m' g' _ hagree
  refine ⟨G₁ m, G₂ m, run m g, ?_⟩
  refine (θ_run (Cert.Reference3Ideal.defs (F := Ideal)) _ _).mono (fun _ h c => ⟨(h c).1.trans ?_, (h c).2.1.trans ?_, (h c).2.2⟩)
    (Cert.Reference3Ideal.Value.run (F := Ideal) m' g')
  · obtain ⟨h0, h1, h2⟩ := hagree c
    funext i
    obtain ⟨r, k, rfl⟩ : ∃ (r : Fin 49664) (k : Fin 1024), i = ix2 r k := ⟨i 0, i 1, eq_ix2 i⟩
    refine (gateH_apply _ _ _ r k).trans ?_
    rw [h0, h1, h2]
    rfl
  · obtain ⟨h0, h1, h2⟩ := hagree c
    funext i
    obtain ⟨r, k, rfl⟩ : ∃ (r : Fin 49664) (k : Fin 1024), i = ix2 r k := ⟨i 0, i 1, eq_ix2 i⟩
    refine (convH_apply _ _ _ r k).trans ?_
    rw [h0, h1, h2]
    rfl

end Cert.Gate

end
-- ==== Proof.FirstGather.lean ====
/- What a tile of the first feed-forward call gathers before its half step: from the two tables of each source the rows of a
   window of the prompts or the samples, the meta tokens over the rows where a sequence begins, zeros from the padding on. -/
module

public import proofs.«01_k».proof.Proof.RowBlock
public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Pointwise

@[expose] public section

set_option maxRecDepth 16384

noncomputable section

namespace Cert.First

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

/-- Where tile `i`'s entry stands in each table. -/
def pos (i : grid0.Coords) : Fin 97 :=
  S97.rowMajor ((Rect.unit (s := S97) (k0_off1 i) S1.size (k0_off1_inb i)).emb (Shape.Idx.first (numel1_S1.symm ▸ Nat.one_pos)))

theorem pos_val : ∀ i : grid0.Coords, (pos i).val = (i 0).val := by decide +kernel

/-- Whether a table's entry says that a source is read at this tile, as the body tests it. -/
def flag (w : BitVec 32) : BitVec 1 := Scalar.cmpi .ne (Scalar.extui (Scalar.cmpi .eq w 1#32)) 0#32

/-- The body's checks of its offsets hold at every tile. -/
theorem check1 : ∀ n : Fin 97, k0_chk1 (lit4 n) (lit5 n) := by decide +kernel
theorem check2 : ∀ n : Fin 97, k0_chk2 (lit6 n) (lit7 n) := by decide +kernel
theorem check3 : ∀ n : Fin 97, k0_chk3 (lit8 n) (lit8 n) := by decide +kernel

/-- The offsets in numbers. -/
theorem off4 : ∀ n : Fin 97, k0_off4 (lit4 n) (lit5 n) = ![(lit4 n).toNat, (lit5 n).toNat, 0] := fun _ => rfl
theorem off6 : ∀ n : Fin 97, k0_off6 (lit6 n) (lit7 n) = ![(lit6 n).toNat, (lit7 n).toNat, 0] := fun _ => rfl
theorem off9 : ∀ n : Fin 97, k0_off9 (lit8 n) = ![(lit8 n).toNat, 0] := fun _ => rfl

/-- A source that a row is taken from has been read at the same tile; a sequence's first row, if the tile holds one, leaves room
    for the meta tokens. -/
theorem reads : ∀ n : Fin 97,
    (0 < (lit8 n).toNat → (lit4 n).toNat = 0 ∧ flag (lit2 n) = 1#1 ∨ (lit4 n).toNat = 1 ∧ flag (lit3 n) = 1#1)
    ∧ ((lit8 n).toNat < 512 → (lit6 n).toNat = 0 ∧ flag (lit2 n) = 1#1 ∨ (lit6 n).toNat = 1 ∧ flag (lit3 n) = 1#1)
    ∧ (k0_cond3 (lit8 n) = 1#1 ↔ (lit8 n).toNat < 512) ∧ ((lit8 n).toNat < 512 → (lit8 n).toNat + 16 ≤ 512)
    ∧ (lit8 n).toNat ≤ 512 ∧ (lit9 n).toNat ≤ 512 ∧ (lit5 n).toNat ≤ 512 ∧ (lit7 n).toNat ≤ 512 := by decide +kernel

/-- Row `q` of two blocks, one under the other. -/
def under (a b : Vec Ideal S512x1024 .f32) (q : Nat) (k : Fin 1024) : Ideal .f32 :=
  if q < 512 then a (ix2 ⟨q % 512, Nat.mod_lt _ (by decide)⟩ k) else b (ix2 ⟨q % 512, Nat.mod_lt _ (by decide)⟩ k)

/-- The same of source `s`: the prompts' two blocks or the samples'. -/
def source (s : Nat) (pa pb sa sb : Vec Ideal S512x1024 .f32) (q : Nat) (k : Fin 1024) : Ideal .f32 :=
  if s = 0 then under pa pb q k else under sa sb q k

/-- The rows tile `n` gathers. -/
def rows (n : Fin 97) (pa pb sa sb : Vec Ideal S512x1024 .f32) (me : Vec Ideal S16x1024 .f32) : Vec Ideal S512x1024 .f32 := fun y =>
  if h : (lit8 n).toNat ≤ (y 0).val ∧ (y 0).val < (lit8 n).toNat + 16 then me (ix2 ⟨(y 0).val - (lit8 n).toNat, by omega⟩ (y 1))
  else if (y 0).val < (lit9 n).toNat then
    if (y 0).val < (lit8 n).toNat then source (lit4 n).toNat pa pb sa sb ((lit5 n).toNat + (y 0).val) (y 1)
    else source (lit6 n).toNat pa pb sa sb ((lit7 n).toNat + (y 0).val) (y 1)
  else Scalar.ofBits (F := Ideal) .f32 0x00000000#32

/-- The gathered rows by cases. -/
theorem rows_meta (n : Fin 97) (pa pb sa sb : Vec Ideal S512x1024 .f32) (me : Vec Ideal S16x1024 .f32) (r : Fin 512) (k : Fin 1024)
    (h : (lit8 n).toNat ≤ r.val ∧ r.val < (lit8 n).toNat + 16) :
    rows n pa pb sa sb me (ix2 r k) = me (ix2 ⟨r.val - (lit8 n).toNat, by omega⟩ k) := dif_pos h
theorem rows_rest (n : Fin 97) (pa pb sa sb : Vec Ideal S512x1024 .f32) (me : Vec Ideal S16x1024 .f32) (r : Fin 512) (k : Fin 1024)
    (h : ¬((lit8 n).toNat ≤ r.val ∧ r.val < (lit8 n).toNat + 16)) :
    rows n pa pb sa sb me (ix2 r k) = if r.val < (lit9 n).toNat then
      if r.val < (lit8 n).toNat then source (lit4 n).toNat pa pb sa sb ((lit5 n).toNat + r.val) k
      else source (lit6 n).toNat pa pb sa sb ((lit7 n).toNat + r.val) k
    else Scalar.ofBits (F := Ideal) .f32 0x00000000#32 := dif_neg h

/-- The body's choice between its two windows and zero, at a row. -/
theorem choose (w w' : BitVec 32) (hw : w.toNat ≤ 512) (hw' : w'.toNat ≤ 512) (L₁ L₂ : Vec Ideal S1x512x1024 .f32) (r : Fin 512) (k : Fin 1024) :
    k0_pay6 (F := Ideal) w L₁ L₂ w' (ix2 r k)
      = if r.val < w'.toNat then if r.val < w.toNat then L₁ (ix3 0 r k) else L₂ (ix3 0 r k) else Scalar.ofBits (F := Ideal) .f32 0x00000000#32 := by
  have e : ∀ v : BitVec 32, v.toNat ≤ 512 → ∀ {α : Type} (a b : α), Scalar.select (IntOp.cmpi .slt (BitVec.ofNat 32 r.val) v) a b = if r.val < v.toNat then a else b := by
    intro v hv α a b
    have h := Idealize.ShloMosaic.WordCmp.cmpi_slt_ofNat_eq_one_iff (w := 32) (a := r.val) (b := v.toNat) (by have := r.isLt; omega) (by omega)
    rw [BitVec.ofNat_toNat, BitVec.setWidth_eq] at h
    unfold Scalar.select
    by_cases hr : r.val < v.toNat
    · exact (if_pos (h.mpr hr)).trans (if_pos hr).symm
    · exact (if_neg (fun q => hr (h.mp q))).trans (if_neg hr).symm
  unfold k0_pay6
  refine Eq.trans ?_ ((e w' hw' (Scalar.select (IntOp.cmpi .slt (BitVec.ofNat 32 r.val) w) (L₁ (ix3 0 r k)) (L₂ (ix3 0 r k))) _).trans (by rw [e w hw]))
  pointwise

/-- The whole-array loads of the body. -/
abbrev all512 {M : Memref sig .tc .vmem S512x1024 .f32} (f : M.view.ty.Contents (Elt Ideal)) : Vec Ideal S512x1024 .f32 :=
  View.readAt (Elt Ideal) M.view (Rect.unit ![0, 0] S512x1024.size inb_S512x1024_S512x1024_0_0).toLoadRect f

theorem all512_eq {M : Memref sig .tc .vmem S512x1024 .f32} (f : M.view.ty.Contents (Elt Ideal)) : all512 (M := M) f = M.view.read (Elt Ideal) f :=
  View.ld_unit_lit inb_S512x1024_S512x1024_0_0 (M.view.read (Elt Ideal) f) (by decide)

/-- The two stores of one source's blocks, its number first. -/
abbrev two (s : Nat) (h₁ : ∀ a, (![s, 512, 0] : Fin 3 → Nat) a + S1x512x1024.size a ≤ S2x1024x1024.size a)
    (h₀ : ∀ a, (![s, 0, 0] : Fin 3 → Nat) a + S1x512x1024.size a ≤ S2x1024x1024.size a) (a b : Vec Ideal S1x512x1024 .f32) :
    List (View.Piece (Elt Ideal) S2x1024x1024 .f32) :=
  [⟨Rect.unit ![s, 512, 0] S1x512x1024.size h₁, b⟩, ⟨Rect.unit ![s, 0, 0] S1x512x1024.size h₀, a⟩]

/-- Read in that source, they give the blocks one under the other; -/
theorem two_in (M : Memref sig .tc .vmem S2x1024x1024 .f32) (f : M.view.ty.Contents (Elt Ideal)) (s : Nat) (h₁ h₀)
    (a b : Vec Ideal S1x512x1024 .f32) (A B : Vec Ideal S512x1024 .f32) (ha : ∀ r k, a (ix3 0 r k) = A (ix2 r k)) (hb : ∀ r k, b (ix3 0 r k) = B (ix2 r k))
    (y : S2x1024x1024.Idx) (q : Nat) (k : Fin 1024) (hq : q < 1024) (y0 : (y 0).val = s) (y1 : (y 1).val = q) (y2 : (y 2).val = k.val) :
    M.view.read (Elt Ideal) (M.view.writes (Elt Ideal) f (two s h₁ h₀ a b)) y = under A B q k := by
  unfold under
  by_cases h : q < 512
  · rw [if_pos h, View.read_writes_cons_unit_of_not_mem M.view f h₁ b _ y rfl 1 (.inl (by show (y 1).val < 512; omega))]
    refine (View.read_writes_cons_unit_of_mem M.view f h₀ a [] y (ix3 (n0 := 1) (n1 := 512) (n2 := 1024) 0 ⟨q % 512, Nat.mod_lt _ (by decide)⟩ k) rfl ?_).trans (ha _ _)
    intro x
    match x with
    | ⟨0, _⟩ => exact y0
    | ⟨1, _⟩ => show (y 1).val = 0 + q % 512; omega
    | ⟨2, _⟩ => show (y 2).val = 0 + k.val; omega
  · rw [if_neg h]
    refine (View.read_writes_cons_unit_of_mem M.view f h₁ b _ y (ix3 (n0 := 1) (n1 := 512) (n2 := 1024) 0 ⟨q % 512, Nat.mod_lt _ (by decide)⟩ k) rfl ?_).trans (hb _ _)
    intro x
    match x with
    | ⟨0, _⟩ => exact y0
    | ⟨1, _⟩ => show (y 1).val = 512 + q % 512; omega
    | ⟨2, _⟩ => show (y 2).val = 0 + k.val; omega

/-- read in the other, what was there before. -/
theorem two_out (M : Memref sig .tc .vmem S2x1024x1024 .f32) (f : M.view.ty.Contents (Elt Ideal)) (s : Nat) (h₁ h₀)
    (a b : Vec Ideal S1x512x1024 .f32) (y : S2x1024x1024.Idx) (y0 : (y 0).val < s) :
    M.view.read (Elt Ideal) (M.view.writes (Elt Ideal) f (two s h₁ h₀ a b)) y = M.view.read (Elt Ideal) f y := by
  rw [View.read_writes_cons_unit_of_not_mem M.view f h₁ b _ y rfl 0 (.inl y0), View.read_writes_cons_unit_of_not_mem M.view f h₀ a _ y rfl 0 (.inl y0)]
  rfl

/-- What the body leaves in the buffer of the two sources. -/
abbrev pair (u v : BitVec 1) (M : Memref sig .tc .vmem S2x1024x1024 .f32) (f : M.view.ty.Contents (Elt Ideal)) (pa pb sa sb : Vec Ideal S512x1024 .f32) :
    M.view.ty.Contents (Elt Ideal) :=
  if hc : v = 1#1 then
    M.view.writes (Elt Ideal)
      (if hc : u = 1#1 then M.view.writes (Elt Ideal) f (two 0 inb_S2x1024x1024_S1x512x1024_0_512_0 inb_S2x1024x1024_S1x512x1024_0_0_0 (k0_pay2 pa) (k0_pay3 pb)) else f)
      (two 1 inb_S2x1024x1024_S1x512x1024_1_512_0 inb_S2x1024x1024_S1x512x1024_1_0_0 (k0_pay4 sa) (k0_pay5 sb))
  else if hc : u = 1#1 then M.view.writes (Elt Ideal) f (two 0 inb_S2x1024x1024_S1x512x1024_0_512_0 inb_S2x1024x1024_S1x512x1024_0_0_0 (k0_pay2 pa) (k0_pay3 pb)) else f

theorem pay2_at (v : Vec Ideal S512x1024 .f32) (r : Fin 512) (k : Fin 1024) : k0_pay2 (F := Ideal) v (ix3 0 r k) = v (ix2 r k) := by
  unfold k0_pay2; pointwise
theorem pay3_at (v : Vec Ideal S512x1024 .f32) (r : Fin 512) (k : Fin 1024) : k0_pay3 (F := Ideal) v (ix3 0 r k) = v (ix2 r k) := by
  unfold k0_pay3; pointwise
theorem pay4_at (v : Vec Ideal S512x1024 .f32) (r : Fin 512) (k : Fin 1024) : k0_pay4 (F := Ideal) v (ix3 0 r k) = v (ix2 r k) := by
  unfold k0_pay4; pointwise
theorem pay5_at (v : Vec Ideal S512x1024 .f32) (r : Fin 512) (k : Fin 1024) : k0_pay5 (F := Ideal) v (ix3 0 r k) = v (ix2 r k) := by
  unfold k0_pay5; pointwise

/-- A window of it over a source that was read holds that source's rows. -/
theorem pair_at (u v : BitVec 1) (M : Memref sig .tc .vmem S2x1024x1024 .f32) (f : M.view.ty.Contents (Elt Ideal)) (pa pb sa sb : Vec Ideal S512x1024 .f32)
    (s e : Nat) (hs : s = 0 ∧ u = 1#1 ∨ s = 1 ∧ v = 1#1) (he : e ≤ 512) (off : Fin 3 → Nat) (ho : off = ![s, e, 0])
    (inb : ∀ a, off a + S1x512x1024.size a ≤ S2x1024x1024.size a) (r : Fin 512) (k : Fin 1024) :
    View.readAt (Elt Ideal) M.view (Rect.unit (s := S2x1024x1024) off S1x512x1024.size inb).toLoadRect (pair u v M f pa pb sa sb) (ix3 0 r k)
      = source s pa pb sa sb (e + r.val) k := by
  subst ho
  have hr := r.isLt
  rw [View.readAt_apply]
  generalize hy : (Rect.unit (s := S2x1024x1024) ![s, e, 0] S1x512x1024.size inb).toLoadRect.idx (ix3 0 r k) = y
  have y0 : (y 0).val = s := by subst hy; show s + 1 * 0 = s; omega
  have y1 : (y 1).val = e + r.val := by subst hy; show e + 1 * r.val = _; omega
  have y2 : (y 2).val = k.val := by subst hy; show 0 + 1 * k.val = _; omega
  unfold source pair
  rcases hs with ⟨rfl, hu⟩ | ⟨rfl, hv⟩
  · rw [if_pos rfl]
    by_cases hv : v = 1#1
    · rw [dif_pos hv, dif_pos hu, two_out M _ 1 _ _ _ _ y (by omega)]
      exact two_in M _ 0 _ _ _ _ _ _ (pay2_at _) (pay3_at _) y _ k (by omega) y0 y1 y2
    · rw [dif_neg hv, dif_pos hu]
      exact two_in M _ 0 _ _ _ _ _ _ (pay2_at _) (pay3_at _) y _ k (by omega) y0 y1 y2
  · rw [if_neg (by decide), dif_pos hv]
    exact two_in M _ 1 _ _ _ _ _ _ (pay4_at _) (pay5_at _) y _ k (by omega) y0 y1 y2

theorem pay7_eq (v : Vec Ideal S512x1024 .f32) : k0_pay7 (F := Ideal) v = v := by
  unfold k0_pay7; first | rfl | (funext y; rw [← ix2_eta y]; pointwise)
theorem pay8_eq (v : Vec Ideal S16x1024 .f32) : k0_pay8 (F := Ideal) v = v := by
  unfold k0_pay8; first | rfl | (funext y; rw [← ix2_eta y]; pointwise)

abbrev rFull : Rect S512x1024 := Rect.unit (s := S512x1024) ![0, 0] S512x1024.size inb_S512x1024_S512x1024_0_0

/-- A store of the whole block covers it. -/
theorem cover (p : Vec Ideal S512x1024 .f32) (y : S512x1024.Idx) :
    ∃ pc ∈ ([⟨rFull, p⟩] : List (View.Piece (Elt Ideal) S512x1024 .f32)), y ∈ pc.1.set :=
  View.cover_of_tiled [⟨rFull, p⟩] S512x1024.size (by rfl) y

theorem stored (M : Memref sig .tc .vmem S512x1024 .f32) (f : M.view.ty.Contents (Elt Ideal)) (R : Vec Ideal S512x1024 .f32) :
    M.view.read (Elt Ideal) (M.view.writes (Elt Ideal) f [⟨Rect.unit ![0, 0] S512x1024.size inb_S512x1024_S512x1024_0_0, k0_pay7 (F := Ideal) R⟩]) = R :=
  (View.read_writes_eq_canon _ _ _ (cover _)).trans ((View.canon_cons_unit_lit _ _ _ (by decide)).trans (pay7_eq R))

/-- What the body leaves in the buffer of the gathered rows. -/
abbrev rowsBuf (w w' : BitVec 32) (h : ∀ hc : k0_cond3 w = 1#1, ∀ a, k0_off9 w' a + S16x1024.size a ≤ S512x1024.size a) (M : Memref sig .tc .vmem S512x1024 .f32)
    (f g : M.view.ty.Contents (Elt Ideal)) (R : Vec Ideal S512x1024 .f32) (me : Vec Ideal S16x1024 .f32) : M.view.ty.Contents (Elt Ideal) :=
  if hc : k0_cond3 w = 1#1 then
    M.view.writes (Elt Ideal) g
      (⟨Rect.unit (k0_off9 w') S16x1024.size (h hc), k0_pay8 (F := Ideal) me⟩ :: [⟨Rect.unit ![0, 0] S512x1024.size inb_S512x1024_S512x1024_0_0, k0_pay7 (F := Ideal) R⟩])
  else M.view.writes (Elt Ideal) f [⟨Rect.unit ![0, 0] S512x1024.size inb_S512x1024_S512x1024_0_0, k0_pay7 (F := Ideal) R⟩]

set_option maxHeartbeats 800000 in
/-- It is the tile's rows, whatever the two buffers held before. -/
theorem gathered_at (n : Fin 97) (M₂ : Memref sig .tc .vmem S2x1024x1024 .f32) (f₂ : M₂.view.ty.Contents (Elt Ideal)) (M : Memref sig .tc .vmem S512x1024 .f32)
    (f g : M.view.ty.Contents (Elt Ideal)) (pa pb sa sb : Vec Ideal S512x1024 .f32) (me : Vec Ideal S16x1024 .f32) (h)
    (h₁ : ∀ a, k0_off4 (lit4 n) (lit5 n) a + S1x512x1024.size a ≤ S2x1024x1024.size a)
    (h₂ : ∀ a, k0_off6 (lit6 n) (lit7 n) a + S1x512x1024.size a ≤ S2x1024x1024.size a) :
    M.view.read (Elt Ideal) (rowsBuf (lit8 n) (lit8 n) h M f g
      (k0_pay6 (lit8 n)
        (View.readAt (Elt Ideal) M₂.view (Rect.unit (s := S2x1024x1024) (k0_off4 (lit4 n) (lit5 n)) S1x512x1024.size h₁).toLoadRect (pair (flag (lit2 n)) (flag (lit3 n)) M₂ f₂ pa pb sa sb))
        (View.readAt (Elt Ideal) M₂.view (Rect.unit (s := S2x1024x1024) (k0_off6 (lit6 n) (lit7 n)) S1x512x1024.size h₂).toLoadRect (pair (flag (lit2 n)) (flag (lit3 n)) M₂ f₂ pa pb sa sb))
        (lit9 n)) me) = rows n pa pb sa sb me := by
  obtain ⟨q1, q2, q3, q4, q5, q6, q7, q8⟩ := reads n
  funext y
  obtain ⟨r, k, rfl⟩ : ∃ r k, y = ix2 r k := ⟨y 0, y 1, (ix2_eta y).symm⟩
  have hr := r.isLt
  have low : ¬ ((lit8 n).toNat ≤ r.val ∧ r.val < (lit8 n).toNat + 16) → k0_pay6 (F := Ideal) (lit8 n)
        (View.readAt (Elt Ideal) M₂.view (Rect.unit (s := S2x1024x1024) (k0_off4 (lit4 n) (lit5 n)) S1x512x1024.size h₁).toLoadRect (pair (flag (lit2 n)) (flag (lit3 n)) M₂ f₂ pa pb sa sb))
        (View.readAt (Elt Ideal) M₂.view (Rect.unit (s := S2x1024x1024) (k0_off6 (lit6 n) (lit7 n)) S1x512x1024.size h₂).toLoadRect (pair (flag (lit2 n)) (flag (lit3 n)) M₂ f₂ pa pb sa sb))
        (lit9 n) (ix2 r k) = rows n pa pb sa sb me (ix2 r k) := by
    intro hm
    rw [choose _ _ q5 q6, rows_rest n pa pb sa sb me r k hm]
    by_cases hv : r.val < (lit9 n).toNat
    · rw [if_pos hv, if_pos hv]
      by_cases ho : r.val < (lit8 n).toNat
      · rw [if_pos ho, if_pos ho]
        exact pair_at _ _ M₂ f₂ pa pb sa sb _ _ (q1 (by omega)) q7 _ (off4 n) h₁ r k
      · rw [if_neg ho, if_neg ho]
        exact pair_at _ _ M₂ f₂ pa pb sa sb _ _ (q2 (by omega)) q8 _ (off6 n) h₂ r k
    · rw [if_neg hv, if_neg hv]
  unfold rowsBuf
  by_cases hc : k0_cond3 (lit8 n) = 1#1
  · rw [dif_pos hc]
    by_cases hm : (lit8 n).toNat ≤ r.val ∧ r.val < (lit8 n).toNat + 16
    · refine (View.read_writes_cons_rows_of_mem M.view g (h hc) (k0_pay8 me) _ (ix2 r k)
        (ix2 (n0 := 16) (n1 := 1024) ⟨r.val - (lit8 n).toNat, by omega⟩ k) (off9 n) (by show r.val = (lit8 n).toNat + (r.val - (lit8 n).toNat); omega) rfl).trans ?_
      rw [pay8_eq, rows_meta n pa pb sa sb me r k hm]
    · refine (View.read_writes_cons_rows_of_not_mem (W := 16) M.view g (h hc) (k0_pay8 me) _ (ix2 r k) (off9 n) rfl (by show r.val < _ ∨ _ ≤ r.val; omega)).trans ?_
      exact (congrFun (stored M _ _) (ix2 r k)).trans (low hm)
  · rw [dif_neg hc]
    exact (congrFun (stored M _ _) (ix2 r k)).trans (low (by have := mt q3.mpr hc; omega))

/-- The same with the words the body has read. -/
theorem gathered (n : Fin 97) (M₂ : Memref sig .tc .vmem S2x1024x1024 .f32) (f₂ : M₂.view.ty.Contents (Elt Ideal)) (M : Memref sig .tc .vmem S512x1024 .f32)
    (f g : M.view.ty.Contents (Elt Ideal)) (pa pb sa sb : Vec Ideal S512x1024 .f32) (me : Vec Ideal S16x1024 .f32) (u v : BitVec 1)
    (s₁ e₁ s₂ e₂ o w w' l : BitVec 32) (hu : u = flag (lit2 n)) (hv : v = flag (lit3 n)) (hs₁ : s₁ = lit4 n) (he₁ : e₁ = lit5 n) (hs₂ : s₂ = lit6 n) (he₂ : e₂ = lit7 n)
    (ho : o = lit8 n) (hw : w = lit8 n) (hw' : w' = lit8 n) (hl : l = lit9 n) (h)
    (h₁ : ∀ a, k0_off4 s₁ e₁ a + S1x512x1024.size a ≤ S2x1024x1024.size a)
    (h₂ : ∀ a, k0_off6 s₂ e₂ a + S1x512x1024.size a ≤ S2x1024x1024.size a) :
    M.view.read (Elt Ideal) (rowsBuf w w' h M f g
      (k0_pay6 o
        (View.readAt (Elt Ideal) M₂.view (Rect.unit (s := S2x1024x1024) (k0_off4 s₁ e₁) S1x512x1024.size h₁).toLoadRect (pair u v M₂ f₂ pa pb sa sb))
        (View.readAt (Elt Ideal) M₂.view (Rect.unit (s := S2x1024x1024) (k0_off6 s₂ e₂) S1x512x1024.size h₂).toLoadRect (pair u v M₂ f₂ pa pb sa sb))
        l) me) = rows n pa pb sa sb me := by
  subst hu hv hs₁ he₁ hs₂ he₂ ho hw hw' hl
  exact gathered_at n M₂ f₂ M f g pa pb sa sb me h h₁ h₂

end Cert.First

end
-- ==== Proof.FirstKit.lean ====
/- The first feed-forward call as it is launched: what the host writes before it, the tables in closed form, the blocks of its
   windows. -/
module

public import proofs.«01_k».proof.Proof.Gen.Kernel4Ideal.Launch
public import proofs.«01_k».proof.Proof.FirstGather
public import Idealize.ShloMosaic.Lib.StableHlo.ReadAt
public import Idealize.ShloMosaic.Lib.Pipeline.FrameBody
public import Idealize.ShloMosaic.Lib.Pipeline.TableIdle
public import Idealize.ShloMosaic.Lib.Tactic

@[expose] public section

set_option maxRecDepth 16384

noncomputable section

namespace Cert.First

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable {F : FTy → Type} [FloatOps F] [Named F]
variable (m : (ℓ : Loc nD τ sig) → Buf (Elt F) ℓ)

/-- A core's buffers when the call begins. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
/-- The host operations run up to the call. -/
theorem upto (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- The tables' contents. -/
def tbl : pre0.Contents (Elt F) := fun
  | 0 => fun i => lit0 (S97.rowMajor i)
  | 1 => fun i => lit1 (S97.rowMajor i)
  | 2 => fun i => lit2 (S97.rowMajor i)
  | 3 => fun i => lit3 (S97.rowMajor i)
  | 4 => fun i => lit4 (S97.rowMajor i)
  | 5 => fun i => lit5 (S97.rowMajor i)
  | 6 => fun i => lit6 (S97.rowMajor i)
  | 7 => fun i => lit7 (S97.rowMajor i)
  | 8 => fun i => lit8 (S97.rowMajor i)
  | 9 => fun i => lit9 (S97.rowMajor i)

/-- A buffer that no host operation writes is found as launched. -/
theorem V_kept (c : Dev nD) (b : Ref sig .tc)
    (h : b ≠ main_c ∧ b ≠ main_c_0 ∧ b ≠ main_c_1 ∧ b ≠ main_c_2 ∧ b ≠ main_c_3 ∧ b ≠ main_c_4 ∧ b ≠ main_c_5 ∧ b ≠ main_c_6 ∧ b ≠ main_c_7 ∧ b ≠ main_c_8 ∧ b ≠ main_v0 ∧ b ≠ main_v1 ∧ b ≠ main_v2 ∧ b ≠ main_v3 ∧ b ≠ main_v4 ∧ b ≠ main_v5 ∧ b ≠ main_v6) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.reshape_writes, Finset.mem_singleton]
    obtain ⟨h0, h1, h2, h3, h4, h5, h6, h7, h8, h9, h10, h11, h12, h13, h14, h15, h16⟩ := h
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16⟩))

theorem V_tbl0 (c : Dev nD) (i : S97.Idx) : V m c main_c i = lit0 (S97.rowMajor i) := by unfold V; after_reads_at
theorem V_tbl1 (c : Dev nD) (i : S97.Idx) : V m c main_c_0 i = lit1 (S97.rowMajor i) := by unfold V; after_reads_at
theorem V_tbl2 (c : Dev nD) (i : S97.Idx) : V m c main_c_1 i = lit2 (S97.rowMajor i) := by unfold V; after_reads_at
theorem V_tbl3 (c : Dev nD) (i : S97.Idx) : V m c main_c_2 i = lit3 (S97.rowMajor i) := by unfold V; after_reads_at
theorem V_tbl4 (c : Dev nD) (i : S97.Idx) : V m c main_c_3 i = lit4 (S97.rowMajor i) := by unfold V; after_reads_at
theorem V_tbl5 (c : Dev nD) (i : S97.Idx) : V m c main_c_4 i = lit5 (S97.rowMajor i) := by unfold V; after_reads_at
theorem V_tbl6 (c : Dev nD) (i : S97.Idx) : V m c main_c_5 i = lit6 (S97.rowMajor i) := by unfold V; after_reads_at
theorem V_tbl7 (c : Dev nD) (i : S97.Idx) : V m c main_c_6 i = lit7 (S97.rowMajor i) := by unfold V; after_reads_at
theorem V_tbl8 (c : Dev nD) (i : S97.Idx) : V m c main_c_7 i = lit8 (S97.rowMajor i) := by unfold V; after_reads_at
theorem V_tbl9 (c : Dev nD) (i : S97.Idx) : V m c main_c_8 i = lit9 (S97.rowMajor i) := by unfold V; after_reads_at

/-- They are what the host writes. -/
theorem V_tbl (c : Dev nD) : ∀ j : Fin 10, V m c (pre0.ref j) = tbl j := fun
  | 0 => funext (V_tbl0 m c)
  | 1 => funext (V_tbl1 m c)
  | 2 => funext (V_tbl2 m c)
  | 3 => funext (V_tbl3 m c)
  | 4 => funext (V_tbl4 m c)
  | 5 => funext (V_tbl5 m c)
  | 6 => funext (V_tbl6 m c)
  | 7 => funext (V_tbl7 m c)
  | 8 => funext (V_tbl8 m c)
  | 9 => funext (V_tbl9 m c)

/-- A block number, kept inside its array. -/
def clip (n : BitVec 32) (w : BitVec 32) : Nat := (Scalar.minsi n (Scalar.maxsi 0#32 w)).toNat

theorem place0 (h₁ h₂) (i : grid0.Coords) : cc0_transform_0 (F := F) h₁ h₂ tbl i = ![clip 31#32 (Scalar.addi (lit0 (pos i)) 0#32), 0] := rfl
theorem place1 (h₁ h₂) (i : grid0.Coords) : cc0_transform_1 (F := F) h₁ h₂ tbl i = ![clip 31#32 (Scalar.addi (lit0 (pos i)) 1#32), 0] := rfl
theorem place2 (h₁ h₂) (i : grid0.Coords) : cc0_transform_2 (F := F) h₁ h₂ tbl i = ![clip 63#32 (Scalar.addi (lit1 (pos i)) 0#32), 0] := rfl
theorem place3 (h₁ h₂) (i : grid0.Coords) : cc0_transform_3 (F := F) h₁ h₂ tbl i = ![clip 63#32 (Scalar.addi (lit1 (pos i)) 1#32), 0] := rfl

theorem clipped : ∀ n : Fin 97, clip 31#32 (Scalar.addi (lit0 n) 0#32) < 32 ∧ clip 31#32 (Scalar.addi (lit0 n) 1#32) < 32
    ∧ clip 63#32 (Scalar.addi (lit1 n) 0#32) < 64 ∧ clip 63#32 (Scalar.addi (lit1 n) 1#32) < 64 := by decide +kernel

/-- So every window lies inside its array. -/
theorem ok : ok0 (F := F) tbl := by
  refine ⟨fun i => ⟨fun a => ?_, .inl rfl⟩, fun i => ⟨fun a => ?_, .inl rfl⟩, fun i => ⟨fun a => ?_, .inl rfl⟩, fun i => ⟨fun a => ?_, .inl rfl⟩⟩
  · rw [place0]; have := (clipped (pos i)).1
    match a with
    | ⟨0, _⟩ => show (clip _ _ + 1) * 512 ≤ 16384; omega
    | ⟨1, _⟩ => exact Nat.le_refl _
  · rw [place1]; have := (clipped (pos i)).2.1
    match a with
    | ⟨0, _⟩ => show (clip _ _ + 1) * 512 ≤ 16384; omega
    | ⟨1, _⟩ => exact Nat.le_refl _
  · rw [place2]; have := (clipped (pos i)).2.2.1
    match a with
    | ⟨0, _⟩ => show (clip _ _ + 1) * 512 ≤ 32768; omega
    | ⟨1, _⟩ => exact Nat.le_refl _
  · rw [place3]; have := (clipped (pos i)).2.2.2
    match a with
    | ⟨0, _⟩ => show (clip _ _ + 1) * 512 ≤ 32768; omega
    | ⟨1, _⟩ => exact Nat.le_refl _

abbrev adm : (pcfg0 (F := F)).Adm := ⟨tbl, ok⟩
/-- The pipeline at the tables' contents. -/
abbrev cfgM : Pipeline.Cfg sig Λ₀ := cfg0 (F := F) adm

/-- A window's block at a tile, from its array as the call finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

theorem found0 {c : Dev nD} (dat : Dat τ (Elt F) Unit ℕ (UR sig nD τ) ℕ cfgM c)
    (hA : dat.A 0 = V m c (Pipeline.arrRef spec0 0)) (ha : ∀ t, dat.after 0 t = iblk m c 0 t) (t : Fin (cfgM (F := F)).N) (d) :
    dat.before 0 t d = iblk m c 0 t :=
  (dat.before_in_eq_fetched 0 rfl (fun _ => rfl) (fun _ _ _ => rfl) (fun t => by rw [ha]; unfold Dat.blockOf iblk; rw [hA]; rfl) t d).trans
    (by unfold Dat.fetched Dat.blockOf iblk; rw [hA]; rfl)
theorem found1 {c : Dev nD} (dat : Dat τ (Elt F) Unit ℕ (UR sig nD τ) ℕ cfgM c)
    (hA : dat.A 1 = V m c (Pipeline.arrRef spec0 1)) (ha : ∀ t, dat.after 1 t = iblk m c 1 t) (t : Fin (cfgM (F := F)).N) (d) :
    dat.before 1 t d = iblk m c 1 t :=
  (dat.before_in_eq_fetched 1 rfl (fun _ => rfl) (fun _ _ _ => rfl) (fun t => by rw [ha]; unfold Dat.blockOf iblk; rw [hA]; rfl) t d).trans
    (by unfold Dat.fetched Dat.blockOf iblk; rw [hA]; rfl)
theorem found2 {c : Dev nD} (dat : Dat τ (Elt F) Unit ℕ (UR sig nD τ) ℕ cfgM c)
    (hA : dat.A 2 = V m c (Pipeline.arrRef spec0 2)) (ha : ∀ t, dat.after 2 t = iblk m c 2 t) (t : Fin (cfgM (F := F)).N) (d) :
    dat.before 2 t d = iblk m c 2 t :=
  (dat.before_in_eq_fetched 2 rfl (fun _ => rfl) (fun _ _ _ => rfl) (fun t => by rw [ha]; unfold Dat.blockOf iblk; rw [hA]; rfl) t d).trans
    (by unfold Dat.fetched Dat.blockOf iblk; rw [hA]; rfl)
theorem found3 {c : Dev nD} (dat : Dat τ (Elt F) Unit ℕ (UR sig nD τ) ℕ cfgM c)
    (hA : dat.A 3 = V m c (Pipeline.arrRef spec0 3)) (ha : ∀ t, dat.after 3 t = iblk m c 3 t) (t : Fin (cfgM (F := F)).N) (d) :
    dat.before 3 t d = iblk m c 3 t :=
  (dat.before_in_eq_fetched 3 rfl (fun _ => rfl) (fun _ _ _ => rfl) (fun t => by rw [ha]; unfold Dat.blockOf iblk; rw [hA]; rfl) t d).trans
    (by unfold Dat.fetched Dat.blockOf iblk; rw [hA]; rfl)
theorem found4 {c : Dev nD} (dat : Dat τ (Elt F) Unit ℕ (UR sig nD τ) ℕ cfgM c)
    (hA : dat.A 4 = V m c (Pipeline.arrRef spec0 4)) (ha : ∀ t, dat.after 4 t = iblk m c 4 t) (t : Fin (cfgM (F := F)).N) (d) :
    dat.before 4 t d = iblk m c 4 t :=
  (dat.before_in_eq_fetched 4 rfl (fun _ => rfl) (fun _ _ _ => rfl) (fun t => by rw [ha]; unfold Dat.blockOf iblk; rw [hA]; rfl) t d).trans
    (by unfold Dat.fetched Dat.blockOf iblk; rw [hA]; rfl)
theorem found5 {c : Dev nD} (dat : Dat τ (Elt F) Unit ℕ (UR sig nD τ) ℕ cfgM c)
    (hA : dat.A 5 = V m c (Pipeline.arrRef spec0 5)) (ha : ∀ t, dat.after 5 t = iblk m c 5 t) (t : Fin (cfgM (F := F)).N) (d) :
    dat.before 5 t d = iblk m c 5 t :=
  (dat.before_in_eq_fetched 5 rfl (fun _ => rfl) (fun _ _ _ => rfl) (fun t => by rw [ha]; unfold Dat.blockOf iblk; rw [hA]; rfl) t d).trans
    (by unfold Dat.fetched Dat.blockOf iblk; rw [hA]; rfl)
theorem found6 {c : Dev nD} (dat : Dat τ (Elt F) Unit ℕ (UR sig nD τ) ℕ cfgM c)
    (hA : dat.A 6 = V m c (Pipeline.arrRef spec0 6)) (ha : ∀ t, dat.after 6 t = iblk m c 6 t) (t : Fin (cfgM (F := F)).N) (d) :
    dat.before 6 t d = iblk m c 6 t :=
  (dat.before_in_eq_fetched 6 rfl (fun _ => rfl) (fun _ _ _ => rfl) (fun t => by rw [ha]; unfold Dat.blockOf iblk; rw [hA]; rfl) t d).trans
    (by unfold Dat.fetched Dat.blockOf iblk; rw [hA]; rfl)
theorem found7 {c : Dev nD} (dat : Dat τ (Elt F) Unit ℕ (UR sig nD τ) ℕ cfgM c)
    (hA : dat.A 7 = V m c (Pipeline.arrRef spec0 7)) (ha : ∀ t, dat.after 7 t = iblk m c 7 t) (t : Fin (cfgM (F := F)).N) (d) :
    dat.before 7 t d = iblk m c 7 t :=
  (dat.before_in_eq_fetched 7 rfl (fun _ => rfl) (fun _ _ _ => rfl) (fun t => by rw [ha]; unfold Dat.blockOf iblk; rw [hA]; rfl) t d).trans
    (by unfold Dat.fetched Dat.blockOf iblk; rw [hA]; rfl)
theorem found8 {c : Dev nD} (dat : Dat τ (Elt F) Unit ℕ (UR sig nD τ) ℕ cfgM c)
    (hA : dat.A 8 = V m c (Pipeline.arrRef spec0 8)) (ha : ∀ t, dat.after 8 t = iblk m c 8 t) (t : Fin (cfgM (F := F)).N) (d) :
    dat.before 8 t d = iblk m c 8 t :=
  (dat.before_in_eq_fetched 8 rfl (fun _ => rfl) (fun _ _ _ => rfl) (fun t => by rw [ha]; unfold Dat.blockOf iblk; rw [hA]; rfl) t d).trans
    (by unfold Dat.fetched Dat.blockOf iblk; rw [hA]; rfl)
theorem found9 {c : Dev nD} (dat : Dat τ (Elt F) Unit ℕ (UR sig nD τ) ℕ cfgM c)
    (hA : dat.A 9 = V m c (Pipeline.arrRef spec0 9)) (ha : ∀ t, dat.after 9 t = iblk m c 9 t) (t : Fin (cfgM (F := F)).N) (d) :
    dat.before 9 t d = iblk m c 9 t :=
  (dat.before_in_eq_fetched 9 rfl (fun _ => rfl) (fun _ _ _ => rfl) (fun t => by rw [ha]; unfold Dat.blockOf iblk; rw [hA]; rfl) t d).trans
    (by unfold Dat.fetched Dat.blockOf iblk; rw [hA]; rfl)

/-- The result's block is written back at every tile. -/
theorem flush10 : ∀ t : Fin (cfgM (F := F)).N, ((cfgM (F := F)).win 10).flush t = true :=
  (by decide +kernel : ∀ t : Fin grid0.N, Pipeline.Window.flushOf grid0 true cc0_transform_10 t = true)

/-- No window is ever idle. -/
theorem live (w : Fin (cfgM (F := F)).W) (t : Fin (cfgM (F := F)).N) : (cfgM (F := F)).idle w (grid0.coords t) = false := by
  obtain ⟨w, h⟩ := w
  have h' : w < 11 := h
  interval_cases w <;> rfl

abbrev ms0 (t : Fin (cfgM (F := F)).N) : Memref sig .tc .vmem S512x1024 .f32 := spec0_0.stage ((cfgM (F := F)).slots t 0)
abbrev ms1 (t : Fin (cfgM (F := F)).N) : Memref sig .tc .vmem S512x1024 .f32 := spec0_1.stage ((cfgM (F := F)).slots t 1)
abbrev ms2 (t : Fin (cfgM (F := F)).N) : Memref sig .tc .vmem S512x1024 .f32 := spec0_2.stage ((cfgM (F := F)).slots t 2)
abbrev ms3 (t : Fin (cfgM (F := F)).N) : Memref sig .tc .vmem S512x1024 .f32 := spec0_3.stage ((cfgM (F := F)).slots t 3)
abbrev ms4 (t : Fin (cfgM (F := F)).N) : Memref sig .tc .vmem S16x1024 .f32 := spec0_4.stage ((cfgM (F := F)).slots t 4)
abbrev ms5 (t : Fin (cfgM (F := F)).N) : Memref sig .tc .vmem S1x1024 .f32 := spec0_5.stage ((cfgM (F := F)).slots t 5)
abbrev ms6 (t : Fin (cfgM (F := F)).N) : Memref sig .tc .vmem S1x1024 .f32 := spec0_6.stage ((cfgM (F := F)).slots t 6)
abbrev ms7 (t : Fin (cfgM (F := F)).N) : Memref sig .tc .vmem S1024x2816 .bf16 := spec0_7.stage ((cfgM (F := F)).slots t 7)
abbrev ms8 (t : Fin (cfgM (F := F)).N) : Memref sig .tc .vmem S1024x2816 .bf16 := spec0_8.stage ((cfgM (F := F)).slots t 8)
abbrev ms9 (t : Fin (cfgM (F := F)).N) : Memref sig .tc .vmem S2816x1024 .bf16 := spec0_9.stage ((cfgM (F := F)).slots t 9)
abbrev ms10 (t : Fin (cfgM (F := F)).N) : Memref sig .tc .vmem S512x1024 .f32 := spec0_10.stage ((cfgM (F := F)).slots t 10)

/-- The body as the pipeline calls it at a tile. -/
abbrev bodyAt (t : Fin (cfgM (F := F)).N) : Prog (TpuEff nD τ sig (Elt F) Λ₀ .tc) PUnit :=
  cc0_ffn_first (grid0.coords t) (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (Memref.whole main_c_4) (Memref.isWhole_whole _) (Memref.whole main_c_5) (Memref.isWhole_whole _) (Memref.whole main_c_6) (Memref.isWhole_whole _) (Memref.whole main_c_7) (Memref.isWhole_whole _) (Memref.whole main_c_8) (Memref.isWhole_whole _) (spec0_0.stage ((cfgM (F := F)).slots t 0)) (hstage0_0 (((cfgM (F := F)).slots t 0).cast nbuf0_0)) (spec0_1.stage ((cfgM (F := F)).slots t 1)) (hstage0_1 (((cfgM (F := F)).slots t 1).cast nbuf0_1)) (spec0_2.stage ((cfgM (F := F)).slots t 2)) (hstage0_2 (((cfgM (F := F)).slots t 2).cast nbuf0_2)) (spec0_3.stage ((cfgM (F := F)).slots t 3)) (hstage0_3 (((cfgM (F := F)).slots t 3).cast nbuf0_3)) (spec0_4.stage ((cfgM (F := F)).slots t 4)) (hstage0_4 (((cfgM (F := F)).slots t 4).cast nbuf0_4)) (spec0_5.stage ((cfgM (F := F)).slots t 5)) (hstage0_5 (((cfgM (F := F)).slots t 5).cast nbuf0_5)) (spec0_6.stage ((cfgM (F := F)).slots t 6)) (hstage0_6 (((cfgM (F := F)).slots t 6).cast nbuf0_6)) (spec0_7.stage ((cfgM (F := F)).slots t 7)) (hstage0_7 (((cfgM (F := F)).slots t 7).cast nbuf0_7)) (spec0_8.stage ((cfgM (F := F)).slots t 8)) (hstage0_8 (((cfgM (F := F)).slots t 8).cast nbuf0_8)) (spec0_9.stage ((cfgM (F := F)).slots t 9)) (hstage0_9 (((cfgM (F := F)).slots t 9).cast nbuf0_9)) (spec0_10.stage ((cfgM (F := F)).slots t 10)) (hstage0_10 (((cfgM (F := F)).slots t 10).cast nbuf0_10)) (Memref.whole cc0_scratch0) (Memref.isWhole_whole _) (Memref.whole cc0_scratch1) (Memref.isWhole_whole _)

end Cert.First

end
-- ==== Proof.FirstTile.lean ====
/- The body of the first feed-forward call: at any tile it stores the half step of the rows the tile gathers. -/
module

public import proofs.«01_k».proof.Proof.FirstGather
public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.First

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

open Cert.RowBlock

/-- A table held at its contents, at the half of the full share a kernel body is given. -/
abbrev TbBuf (c : Dev nD) {S : Shape} {e : EltTy} (M : Memref sig .tc .smem S e) : Type := Buf (Elt Ideal) (M.view.loc (c : Thread nD τ))
abbrev tbPt (c : Dev nD) {S : Shape} {e : EltTy} (M : Memref sig .tc .smem S e) (f : TbBuf c M) : sProp 𝕄 :=
  M.view.loc (c : Thread nD τ) ↦{fullShare.right} f

/-- The ten tables at what the host wrote. -/
def tables (c : Dev nD) : sProp 𝕄 :=
  iprop(tbPt c (Memref.whole main_c) (fun i => lit0 (S97.rowMajor i)) ∗ tbPt c (Memref.whole main_c_0) (fun i => lit1 (S97.rowMajor i)) ∗ tbPt c (Memref.whole main_c_1) (fun i => lit2 (S97.rowMajor i)) ∗ tbPt c (Memref.whole main_c_2) (fun i => lit3 (S97.rowMajor i)) ∗ tbPt c (Memref.whole main_c_3) (fun i => lit4 (S97.rowMajor i)) ∗ tbPt c (Memref.whole main_c_4) (fun i => lit5 (S97.rowMajor i)) ∗ tbPt c (Memref.whole main_c_5) (fun i => lit6 (S97.rowMajor i)) ∗ tbPt c (Memref.whole main_c_6) (fun i => lit7 (S97.rowMajor i)) ∗ tbPt c (Memref.whole main_c_7) (fun i => lit8 (S97.rowMajor i)) ∗ tbPt c (Memref.whole main_c_8) (fun i => lit9 (S97.rowMajor i)))

abbrev rG : Rect S1x1024 := Rect.unit (s := S1x1024) ![0, 0] S1x1024.size inb_S1x1024_S1x1024_0_0

theorem whole_loads (X R : Vec Ideal S512x1024 .f32) (h : X = R) (x1 x2 : Vec Ideal S1x1024 .f32) (x3 x4 : Vec Ideal S1024x2816 .bf16)
    (x5 : Vec Ideal S2816x1024 .bf16) :
    halfB (F := Ideal) ((-((Real.log 2)⁻¹) : ℝ) : EReal) X (View.ld x1 rG) (View.ld x2 rG) x3 x4 x5
      = halfB (F := Ideal) ((-((Real.log 2)⁻¹) : ℝ) : EReal) R x1 x2 x3 x4 x5 := by
  subst h
  rw [View.ld_unit_lit _ x1 (by decide), View.ld_unit_lit _ x2 (by decide)]

theorem meta_load {M : Memref sig .tc .vmem S16x1024 .f32} (f : M.view.ty.Contents (Elt Ideal)) :
    View.readAt (Elt Ideal) M.view (Rect.unit ![0, 0] S16x1024.size inb_S16x1024_S16x1024_0_0).toLoadRect f = M.view.read (Elt Ideal) f :=
  View.ld_unit_lit inb_S16x1024_S16x1024_0_0 (M.view.read (Elt Ideal) f) (by decide)

set_option maxHeartbeats 600000 in
/-- A tile stores the half step of the rows it gathers. -/
theorem tile (c : Dev nD) (i : grid0.Coords) (apa : Memref sig .tc .vmem S512x1024 .f32) (hpa : apa.IsWhole) (apb : Memref sig .tc .vmem S512x1024 .f32) (hpb : apb.IsWhole) (asa : Memref sig .tc .vmem S512x1024 .f32) (hsa : asa.IsWhole) (asb : Memref sig .tc .vmem S512x1024 .f32) (hsb : asb.IsWhole) (ame : Memref sig .tc .vmem S16x1024 .f32) (hme : ame.IsWhole) (ag1 : Memref sig .tc .vmem S1x1024 .f32) (hg1 : ag1.IsWhole) (ag2 : Memref sig .tc .vmem S1x1024 .f32) (hg2 : ag2.IsWhole) (awg : Memref sig .tc .vmem S1024x2816 .bf16) (hwg : awg.IsWhole) (awu : Memref sig .tc .vmem S1024x2816 .bf16) (hwu : awu.IsWhole) (awd : Memref sig .tc .vmem S2816x1024 .bf16) (hwd : awd.IsWhole) (ao : Memref sig .tc .vmem S512x1024 .f32) (ho : ao.IsWhole) (apr : Memref sig .tc .vmem S2x1024x1024 .f32) (hpr : apr.IsWhole) (asx : Memref sig .tc .vmem S512x1024 .f32) (hsx : asx.IsWhole)
  (xpa : Vec Ideal S512x1024 .f32) (xpb : Vec Ideal S512x1024 .f32) (xsa : Vec Ideal S512x1024 .f32) (xsb : Vec Ideal S512x1024 .f32) (xme : Vec Ideal S16x1024 .f32) (xg1 : Vec Ideal S1x1024 .f32) (xg2 : Vec Ideal S1x1024 .f32) (xwg : Vec Ideal S1024x2816 .bf16) (xwu : Vec Ideal S1024x2816 .bf16) (xwd : Vec Ideal S2816x1024 .bf16)
  (K : PUnit → sProp 𝕄) :
  iprop(owns (c : Thread nD τ) apa fullShare xpa ∗ owns (c : Thread nD τ) apb fullShare xpb ∗ owns (c : Thread nD τ) asa fullShare xsa ∗ owns (c : Thread nD τ) asb fullShare xsb ∗ owns (c : Thread nD τ) ame fullShare xme ∗ owns (c : Thread nD τ) ag1 fullShare xg1 ∗ owns (c : Thread nD τ) ag2 fullShare xg2 ∗ owns (c : Thread nD τ) awg fullShare xwg ∗ owns (c : Thread nD τ) awu fullShare xwu ∗ owns (c : Thread nD τ) awd fullShare xwd
    ∗ (∃ d, owns (c : Thread nD τ) ao fullShare d) ∗ (∃ d, owns (c : Thread nD τ) apr fullShare d) ∗ (∃ d, owns (c : Thread nD τ) asx fullShare d)
    ∗ tables c ∗ (iprop(owns (c : Thread nD τ) apa fullShare xpa ∗ owns (c : Thread nD τ) apb fullShare xpb ∗ owns (c : Thread nD τ) asa fullShare xsa ∗ owns (c : Thread nD τ) asb fullShare xsb ∗ owns (c : Thread nD τ) ame fullShare xme ∗ owns (c : Thread nD τ) ag1 fullShare xg1 ∗ owns (c : Thread nD τ) ag2 fullShare xg2 ∗ owns (c : Thread nD τ) awg fullShare xwg ∗ owns (c : Thread nD τ) awu fullShare xwu ∗ owns (c : Thread nD τ) awd fullShare xwd ∗ owns (c : Thread nD τ) ao fullShare (halfB (F := Ideal) ((-((Real.log 2)⁻¹) : ℝ) : EReal) (rows (pos i) xpa xpb xsa xsb xme) xg1 xg2 xwg xwu xwd)
      ∗ (∃ d, owns (c : Thread nD τ) apr fullShare d) ∗ (∃ d, owns (c : Thread nD τ) asx fullShare d) ∗ tables c) -∗ K ⟨⟩))
   ⊢ wp frame (wpE (defs₀ (F := Ideal)) Variants.none c none) Set.univ (cc0_ffn_first i (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (Memref.whole main_c_4) (Memref.isWhole_whole _) (Memref.whole main_c_5) (Memref.isWhole_whole _) (Memref.whole main_c_6) (Memref.isWhole_whole _) (Memref.whole main_c_7) (Memref.isWhole_whole _) (Memref.whole main_c_8) (Memref.isWhole_whole _) apa hpa apb hpb asa hsa asb hsb ame hme ag1 hg1 ag2 hg2 awg hwg awu hwu awd hwd ao ho apr hpr asx hsx) K := by
  simp only [cc0_ffn_first_eq_skeleton]; unfold cc0_ffn_first_skel
  simp only [k0_part1_eq_skeleton, k0_part2_eq_skeleton, k0_part3_eq_skeleton, k0_part4_eq_skeleton, k0_part5_eq_skeleton, k0_part6_eq_skeleton, k0_part7_eq_skeleton]
  unfold owns tables
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dpo, %fo, -, Ho⟩, ⟨%dpr, %fpr, -, Hpr⟩, ⟨%dsx, %fsx, -, Hsx⟩, ⟨HT0, HT1, HT2, HT3, HT4, HT5, HT6, HT7, HT8, HT9⟩, Hk⟩
  subst hf0 hf1 hf2 hf3 hf4 hf5 hf6 hf7 hf8 hf9
  sl_exec (disch := first | exact check1 (pos i) | exact check2 (pos i) | exact check3 (pos i))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro
    refine (View.read_writes_eq_canon _ _ _ (cover _)).trans ?_
    refine (View.canon_cons_unit_lit _ _ _ (by decide)).trans ?_
    have key : tile.sl.v52 c i apa apb asa asb ame apr asx f0 f1 f2 f3 f4 fpr fsx = rows (pos i) (apa.view.read (Elt Ideal) f0) (apb.view.read (Elt Ideal) f1) (asa.view.read (Elt Ideal) f2) (asb.view.read (Elt Ideal) f3) (ame.view.read (Elt Ideal) f4) := by
      have hu : tile.sl.v4 c i = flag (lit2 (pos i)) := rfl
      have hv : tile.sl.v9 c i = flag (lit3 (pos i)) := rfl
      have hs₁ : tile.sl.r_3 c i = lit4 (pos i) := rfl
      have he₁ : tile.sl.r_4 c i = lit5 (pos i) := rfl
      have hs₂ : tile.sl.r_5 c i = lit6 (pos i) := rfl
      have he₂ : tile.sl.r_6 c i = lit7 (pos i) := rfl
      have ho : tile.sl.r_2 c i = lit8 (pos i) := rfl
      have hw : tile.sl.r_9 c i = lit8 (pos i) := rfl
      have hw' : tile.sl.r_10 c i = lit8 (pos i) := rfl
      have hl : tile.sl.r_7 c i = lit9 (pos i) := rfl
      have p1 : tile.sl.v22 c i apa apb asa asb apr f0 f1 f2 f3 fpr = View.readAt (Elt Ideal) apr.view (Rect.unit (s := S2x1024x1024) (k0_off4 (tile.sl.r_3 c i) (tile.sl.r_4 c i)) S1x512x1024.size (check1 (pos i)).2).toLoadRect (pair (tile.sl.v4 c i) (tile.sl.v9 c i) apr fpr (all512 f0) (all512 f1) (all512 f2) (all512 f3)) := by unfold tile.sl.v22; rfl
      have p2 : tile.sl.v31 c i apa apb asa asb apr f0 f1 f2 f3 fpr = View.readAt (Elt Ideal) apr.view (Rect.unit (s := S2x1024x1024) (k0_off6 (tile.sl.r_5 c i) (tile.sl.r_6 c i)) S1x512x1024.size (check2 (pos i)).2).toLoadRect (pair (tile.sl.v4 c i) (tile.sl.v9 c i) apr fpr (all512 f0) (all512 f1) (all512 f2) (all512 f3)) := by unfold tile.sl.v31; rfl
      have p4 : tile.sl.v52 c i apa apb asa asb ame apr asx f0 f1 f2 f3 f4 fpr fsx = View.readAt (Elt Ideal) asx.view rFull.toLoadRect (rowsBuf (tile.sl.r_9 c i) (tile.sl.r_10 c i) (check3 (pos i)).2 asx fsx asx.view.junk (tile.sl.r_8 c i apa apb asa asb apr f0 f1 f2 f3 fpr) (View.readAt (Elt Ideal) ame.view (Rect.unit ![0, 0] S16x1024.size inb_S16x1024_S16x1024_0_0).toLoadRect f4)) := by unfold tile.sl.v52 tile.sl.Hsx_1; rfl
      have p3 : tile.sl.r_8 c i apa apb asa asb apr f0 f1 f2 f3 fpr = k0_pay6 (tile.sl.r_2 c i) (tile.sl.v22 c i apa apb asa asb apr f0 f1 f2 f3 fpr) (tile.sl.v31 c i apa apb asa asb apr f0 f1 f2 f3 fpr) (tile.sl.r_7 c i) := by unfold tile.sl.r_8; rfl
      have G := gathered (pos i) apr fpr asx fsx asx.view.junk (all512 (M := apa) f0) (all512 (M := apb) f1) (all512 (M := asa) f2) (all512 (M := asb) f3) (View.readAt (Elt Ideal) ame.view (Rect.unit ![0, 0] S16x1024.size inb_S16x1024_S16x1024_0_0).toLoadRect f4)
        (tile.sl.v4 c i) (tile.sl.v9 c i) (tile.sl.r_3 c i) (tile.sl.r_4 c i) (tile.sl.r_5 c i) (tile.sl.r_6 c i) (tile.sl.r_2 c i)
        (tile.sl.r_9 c i) (tile.sl.r_10 c i) (tile.sl.r_7 c i) hu hv hs₁ he₁ hs₂ he₂ ho hw hw' hl (check3 (pos i)).2 (check1 (pos i)).2 (check2 (pos i)).2
      rw [← p1, ← p2, ← p3, all512_eq, all512_eq, all512_eq, all512_eq, meta_load] at G
      rw [p4]
      refine (all512_eq (M := asx) _).trans ?_
      rw [meta_load]
      exact G
    unfold tile.sl.r_23 tile.sl.r_22 tile.sl.r_21 tile.sl.r_20 tile.sl.r_19 tile.sl.r_18 tile.sl.r_17 tile.sl.r_16 tile.sl.r_15 tile.sl.r_14 tile.sl.r_13 tile.sl.r_12 tile.sl.r_11
    generalize tile.sl.v52 c i apa apb asa asb ame apr asx f0 f1 f2 f3 f4 fpr fsx = X at key ⊢
    refine Eq.trans ?_ (whole_loads X _ key (ag1.view.read (Elt Ideal) f5) (ag2.view.read (Elt Ideal) f6) (awg.view.read (Elt Ideal) f7) (awu.view.read (Elt Ideal) f8) (awd.view.read (Elt Ideal) f9))
    rfl
  isplitl [Hpr]
  · iexists _; iexists _; isplitr
    swap; · iexact Hpr
    ipureintro; rfl
  isplitl [Hsx]
  · iexists _; iexists _; isplitr
    swap; · iexact Hsx
    ipureintro; rfl
  iframe

end Cert.First

end
-- ==== Proof.FirstRun.lean ====
/- The first feed-forward call run: every tile leaves its block of the packed result at the half step of the rows it gathers,
   and the whole run ends with the packed result at what the tiles wrote back. -/
module

public import proofs.«01_k».proof.Proof.FirstKit
public import proofs.«01_k».proof.Proof.FirstTile
public import Idealize.ShloMosaic.Lib.Claim

@[expose] public section

set_option maxRecDepth 16384

noncomputable section

namespace Cert.First

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

open Cert.RowBlock

variable (m : (ℓ : Loc nD τ sig) → Buf (Elt Ideal) ℓ) (ρ : Dev nD → PrngReg)

/-- Where a tile's entry stands in the tables. -/
abbrev at' (t : Fin (cfgM (F := Ideal)).N) : Fin 97 := pos (grid0.coords t)

/-- What tile `t` computes. -/
def yblk (c : Dev nD) (t : Fin (cfgM (F := Ideal)).N) : Vec Ideal S512x1024 .f32 :=
  halfB (F := Ideal) ((-((Real.log 2)⁻¹) : ℝ) : EReal) (rows (at' t) (iblk m c 0 t) (iblk m c 1 t) (iblk m c 2 t) (iblk m c 3 t) (iblk m c 4 t)) (iblk m c 5 t) (iblk m c 6 t) (iblk m c 7 t) (iblk m c 8 t) (iblk m c 9 t)

/-- What the buffers hold after each tile: inputs their blocks, the result's what the tile computed. -/
def dats (_ : Fin 1) (c : Dev nD) : Dat τ (Elt Ideal) Unit ℕ (UR sig nD τ) ℕ (cfgM (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yblk m c t
  Φ _ := iprop(Pipeline.ΦA spec0 c ∗ Pipeline.ΦT pre0 tbl c)
  q w := Pipeline.shareOf spec0 w
  owed _ := 0

theorem A_eq (c : Dev nD) (w : Fin (cfgM (F := Ideal)).W) : (dats m 0 c).A w = V m c (Pipeline.arrRef spec0 w) := by
  dsimp only [dats]

theorem after0 (c : Dev nD) (t : Fin (cfgM (F := Ideal)).N) : (dats m 0 c).after 0 t = iblk m c 0 t := by dsimp only [dats]; try rfl
theorem after1 (c : Dev nD) (t : Fin (cfgM (F := Ideal)).N) : (dats m 0 c).after 1 t = iblk m c 1 t := by dsimp only [dats]; try rfl
theorem after2 (c : Dev nD) (t : Fin (cfgM (F := Ideal)).N) : (dats m 0 c).after 2 t = iblk m c 2 t := by dsimp only [dats]; try rfl
theorem after3 (c : Dev nD) (t : Fin (cfgM (F := Ideal)).N) : (dats m 0 c).after 3 t = iblk m c 3 t := by dsimp only [dats]; try rfl
theorem after4 (c : Dev nD) (t : Fin (cfgM (F := Ideal)).N) : (dats m 0 c).after 4 t = iblk m c 4 t := by dsimp only [dats]; try rfl
theorem after5 (c : Dev nD) (t : Fin (cfgM (F := Ideal)).N) : (dats m 0 c).after 5 t = iblk m c 5 t := by dsimp only [dats]; try rfl
theorem after6 (c : Dev nD) (t : Fin (cfgM (F := Ideal)).N) : (dats m 0 c).after 6 t = iblk m c 6 t := by dsimp only [dats]; try rfl
theorem after7 (c : Dev nD) (t : Fin (cfgM (F := Ideal)).N) : (dats m 0 c).after 7 t = iblk m c 7 t := by dsimp only [dats]; try rfl
theorem after8 (c : Dev nD) (t : Fin (cfgM (F := Ideal)).N) : (dats m 0 c).after 8 t = iblk m c 8 t := by dsimp only [dats]; try rfl
theorem after9 (c : Dev nD) (t : Fin (cfgM (F := Ideal)).N) : (dats m 0 c).after 9 t = iblk m c 9 t := by dsimp only [dats]; try rfl
theorem after10 (c : Dev nD) (t : Fin (cfgM (F := Ideal)).N) : (dats m 0 c).after 10 t = yblk m c t := by dsimp only [dats]; try rfl

theorem before0 (c : Dev nD) (t : Fin (cfgM (F := Ideal)).N) (d) : (dats m 0 c).before 0 t d = iblk m c 0 t :=
  found0 m (dats m 0 c) (A_eq m c 0) (after0 m c) t d
theorem before1 (c : Dev nD) (t : Fin (cfgM (F := Ideal)).N) (d) : (dats m 0 c).before 1 t d = iblk m c 1 t :=
  found1 m (dats m 0 c) (A_eq m c 1) (after1 m c) t d
theorem before2 (c : Dev nD) (t : Fin (cfgM (F := Ideal)).N) (d) : (dats m 0 c).before 2 t d = iblk m c 2 t :=
  found2 m (dats m 0 c) (A_eq m c 2) (after2 m c) t d
theorem before3 (c : Dev nD) (t : Fin (cfgM (F := Ideal)).N) (d) : (dats m 0 c).before 3 t d = iblk m c 3 t :=
  found3 m (dats m 0 c) (A_eq m c 3) (after3 m c) t d
theorem before4 (c : Dev nD) (t : Fin (cfgM (F := Ideal)).N) (d) : (dats m 0 c).before 4 t d = iblk m c 4 t :=
  found4 m (dats m 0 c) (A_eq m c 4) (after4 m c) t d
theorem before5 (c : Dev nD) (t : Fin (cfgM (F := Ideal)).N) (d) : (dats m 0 c).before 5 t d = iblk m c 5 t :=
  found5 m (dats m 0 c) (A_eq m c 5) (after5 m c) t d
theorem before6 (c : Dev nD) (t : Fin (cfgM (F := Ideal)).N) (d) : (dats m 0 c).before 6 t d = iblk m c 6 t :=
  found6 m (dats m 0 c) (A_eq m c 6) (after6 m c) t d
theorem before7 (c : Dev nD) (t : Fin (cfgM (F := Ideal)).N) (d) : (dats m 0 c).before 7 t d = iblk m c 7 t :=
  found7 m (dats m 0 c) (A_eq m c 7) (after7 m c) t d
theorem before8 (c : Dev nD) (t : Fin (cfgM (F := Ideal)).N) (d) : (dats m 0 c).before 8 t d = iblk m c 8 t :=
  found8 m (dats m 0 c) (A_eq m c 8) (after8 m c) t d
theorem before9 (c : Dev nD) (t : Fin (cfgM (F := Ideal)).N) (d) : (dats m 0 c).before 9 t d = iblk m c 9 t :=
  found9 m (dats m 0 c) (A_eq m c 9) (after9 m c) t d

/-- The tables' halves, table by table. -/
theorem tables_eq (c : Dev nD) : (Pipeline.ΦT pre0 tbl c : sProp 𝕄) = tables c := by
  unfold Pipeline.ΦT Pipeline.prefHeld
  rw [show (Finset.univ : Finset (Fin 10)) = insert (0 : Fin 10) (insert (1 : Fin 10) (insert (2 : Fin 10) (insert (3 : Fin 10) (insert (4 : Fin 10) (insert (5 : Fin 10) (insert (6 : Fin 10) (insert (7 : Fin 10) (insert (8 : Fin 10) {(9 : Fin 10)})))))))) from by decide,
    bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-- What a tile finds besides its windows: the two scratch buffers at whatever they hold, the tables. -/
theorem Phi_eq (c : Dev nD) (t) : (dats m 0 c).Φ t = (iprop((((∃ d, owns (c : Thread nD τ) (Memref.whole cc0_scratch0) fullShare d) ∗ (∃ d, owns (c : Thread nD τ) (Memref.whole cc0_scratch1) fullShare d))
    ∗ ∃ r, prngReg c r) ∗ tables c) : sProp 𝕄) := by
  show iprop(Pipeline.ΦA spec0 c ∗ Pipeline.ΦT pre0 tbl c) = _
  unfold Pipeline.ΦA
  have e0 : (iprop(∃ d, owns (c : Thread nD τ) (Memref.whole cc0_scratch0) fullShare d) : sProp 𝕄) = iprop(∃ f : Buf (Elt Ideal) ((c : Thread nD τ).loc cc0_scratch0), ((c : Thread nD τ).loc cc0_scratch0) ↦{fullShare} f) :=
    Memref.IsWhole.exists_owns_eq (c := (c : Thread nD τ)) (Memref.isWhole_whole _) fullShare
  have e1 : (iprop(∃ d, owns (c : Thread nD τ) (Memref.whole cc0_scratch1) fullShare d) : sProp 𝕄) = iprop(∃ f : Buf (Elt Ideal) ((c : Thread nD τ).loc cc0_scratch1), ((c : Thread nD τ).loc cc0_scratch1) ↦{fullShare} f) :=
    Memref.IsWhole.exists_owns_eq (c := (c : Thread nD τ)) (Memref.isWhole_whole _) fullShare
  rw [tables_eq, scopedRest0_eq c, e0, e1]

/-- What the body is called with at a tile, and what it returns. -/
def bodyPre (c : Dev nD) (t : Fin (cfgM (F := Ideal)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin (cfgM (F := Ideal)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A window never idle is left at `after`. -/
theorem leaves_live (c : Dev nD) (w : Fin (cfgM (F := Ideal)).W) (t : Fin (cfgM (F := Ideal)).N) :
    (dats m 0 c).leavesExact w t
      = owns (c : Thread nD τ) (((cfgM (F := Ideal)).win w).stage ((cfgM (F := Ideal)).slots t w)) fullShare ((dats m 0 c).after w t) := by
  unfold Dat.leavesExact
  rw [show (cfgM (F := Ideal)).idle w ((cfgM (F := Ideal)).grid.coords t) = false from live w t]

set_option maxHeartbeats 1600000 in
/-- The body at any tile. -/
theorem sound (c : Dev nD) (t : Fin (cfgM (F := Ideal)).N) :
    bodyPre m c t ⊢ wp frame (wpE (defs₀ (F := Ideal)) Variants.none c none) Set.univ (bodyAt t) (fun _ => bodyPost m c t) := by
  unfold bodyPre bodyPost bodyAt
  simp only [before0, before1, before2, before3, before4, before5, before6, before7, before8, before9]
  rw [Phi_eq, Phi_eq, show (dats m 0 c).owesAt () t.succ = (dats m 0 c).owesAt () t.castSucc from rfl]
  rw [leaves_live m c 0 t, after0]
  rw [leaves_live m c 1 t, after1]
  rw [leaves_live m c 2 t, after2]
  rw [leaves_live m c 3 t, after3]
  rw [leaves_live m c 4 t, after4]
  rw [leaves_live m c 5 t, after5]
  rw [leaves_live m c 6 t, after6]
  rw [leaves_live m c 7 t, after7]
  rw [leaves_live m c 8 t, after8]
  rw [leaves_live m c 9 t, after9]
  rw [leaves_live m c 10 t, after10]
  iintro ⟨⟨⟨⟨Hp, Hx⟩, Hr⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hp]; · iexact Hp
  isplitl [Hx]; · iexact Hx
  isplitl [HT]; · iexact HT
  iintro ⟨H0, H1, H2, H3, H4, H5, H6, H7, H8, H9, H10, Hp, Hx, HT⟩
  isplitl [Hp Hx Hr HT]
  · isplitl [Hp Hx Hr]
    · isplitl [Hp Hx]
      · isplitl [Hp]; · iexact Hp
        iexact Hx
      iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row (t : Fin (cfgM (F := Ideal)).N) :
    defs₀ (F := Ideal) .tc (cfgM (F := Ideal)).body ((cfgM (F := Ideal)).bodyArgs t ((cfgM (F := Ideal)).slots t)) = bodyAt t := by
  unfold defs₀; rw [Defs.onTc_tc]

/-- The body meets the pipeline's obligation at every tile. -/
theorem obligation (c : Dev nD) : BodyObligation (dats m 0 c) (defs₀ (F := Ideal)) Variants.none () Set.univ := fun t => by
  rw [bigSep_W0, bigSep_W0, row]
  exact triple_restated (sound m c t) rfl .rfl fun _ => .rfl

set_option backward.isDefEq.respectTransparency.types false in
set_option maxHeartbeats 800000 in
/-- The whole run: the pipeline's arrays end at what the tiles wrote back, the other buffers as they were, the counters at zero. -/
theorem run_arrays : θ_run defs (onTc (τ := τ) (main (F := Ideal))) (s₀ m ρ)
    (fun r => (Pipeline.FramePost (Pipeline.pin pcfgs fun _ => adm) (dats m) 0 (V m)) r ∧ r.2.sem = fun _ => 0) :=
  Pipeline.θ_run_frameP_shared (Q' := _) pcfgs (fun _ => adm) (dats m) (0 : Fin 1) launch₀0 defs₀ Variants.none m ρ main
    (hbody := fun c => (obligation m c).loose) (hq := fun _ _ _ => rfl)
    (howed := fun _ _ => rfl) (V := V m) (hmain := upto m Variants.none) (hA := A_eq m) (hpf := V_tbl m) (hΦ := fun _ _ => rfl)
    (hQ' := fun _ h => h)

end Cert.First

end
-- ==== Proof.FirstPack.lean ====
/- The rows that the tables of the first feed-forward call name are the packed rows. -/
module

public import proofs.«01_k».proof.Proof.FirstKit
public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.First

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

/-- Where packed row `R` comes from: 0 the meta tokens, 1 the prompts, 2 the samples, 3 nowhere; and the row there. -/
def origin (R : Nat) : Nat × Nat :=
  if R < 16512 then if R % 2064 < 16 then (0, R % 2064) else (1, 2048 * (R / 2064) + (R % 2064 - 16))
  else if R < 49312 then if (R - 16512) % 16400 < 16 then (0, (R - 16512) % 16400) else (2, 16384 * ((R - 16512) / 16400) + ((R - 16512) % 16400 - 16))
  else (3, 0)

/-- The same of row `q` of source `s`'s two blocks at tile `n`. -/
def drawn (n : Fin 97) (s q : Nat) : Nat × Nat :=
  if s = 0 then (1, if q < 512 then 512 * clip 31#32 (Scalar.addi (lit0 n) 0#32) + q else 512 * clip 31#32 (Scalar.addi (lit0 n) 1#32) + (q - 512))
  else (2, if q < 512 then 512 * clip 63#32 (Scalar.addi (lit1 n) 0#32) + q else 512 * clip 63#32 (Scalar.addi (lit1 n) 1#32) + (q - 512))

/-- The same of row `r` of what tile `n` gathers. -/
def taken (n : Fin 97) (r : Nat) : Nat × Nat :=
  if (lit8 n).toNat ≤ r ∧ r < (lit8 n).toNat + 16 then (0, r - (lit8 n).toNat)
  else if r < (lit9 n).toNat then
    if r < (lit8 n).toNat then drawn n (lit4 n).toNat ((lit5 n).toNat + r) else drawn n (lit6 n).toNat ((lit7 n).toNat + r)
  else (3, 0)

set_option maxHeartbeats 4000000 in
/-- Tile `n` gathers packed rows 512 n onward. -/
theorem gathers : ∀ n : Fin 97, ∀ r : Fin 512, taken n r.val = origin (512 * n.val + r.val) := by decide +kernel

end Cert.First

end
-- ==== Proof.FirstSource.lean ====
/- The packed array row by row: row `R` is a meta token, a prompt's row, a sample's row, or zero. -/
module

public import proofs.«01_k».proof.Proof.FirstPack

@[expose] public section

set_option maxRecDepth 16384

noncomputable section

namespace Cert.First

open Cert.Kernel4Ideal Cert.Kernel4Ideal.Gen
open Idealize.ShloMosaic Idealize.ShloMosaic.TcCoe

/-- The row named by its kind and its place: 0 a meta token, 1 a prompt row, 2 a sample row, else zero. -/
def src (xp : FVec Ideal S8x2048x1024 .f32) (xs : FVec Ideal S2x16384x1024 .f32) (me : FVec Ideal S16x1024 .f32)
    (o : Nat × Nat) (k : Fin 1024) : EReal :=
  if o.1 = 0 then me (ix2 ⟨o.2 % 16, Nat.mod_lt _ (by decide)⟩ k)
  else if o.1 = 1 then xp (ix3 ⟨o.2 / 2048 % 8, Nat.mod_lt _ (by decide)⟩ ⟨o.2 % 2048, Nat.mod_lt _ (by decide)⟩ k)
  else if o.1 = 2 then xs (ix3 ⟨o.2 / 16384 % 2, Nat.mod_lt _ (by decide)⟩ ⟨o.2 % 16384, Nat.mod_lt _ (by decide)⟩ k)
  else 0

set_option maxHeartbeats 4000000 in
/-- A row taken from a source lies in that source's two blocks. -/
theorem reach : ∀ n : Fin 97, ∀ r : Fin 512, r.val < (lit9 n).toNat → ¬((lit8 n).toNat ≤ r.val ∧ r.val < (lit8 n).toNat + 16) →
    (if r.val < (lit8 n).toNat then (lit5 n).toNat + r.val < 1024 else (lit7 n).toNat + r.val < 1024) := by decide +kernel

section
variable (xp : FVec Ideal S8x2048x1024 .f32) (xs : FVec Ideal S2x16384x1024 .f32) (me : FVec Ideal S16x1024 .f32)

theorem src_meta (q : Nat) (k : Fin 1024) : src xp xs me (0, q) k = me (ix2 ⟨q % 16, Nat.mod_lt _ (by decide)⟩ k) := rfl
theorem src_prompt (q : Nat) (k : Fin 1024) : src xp xs me (1, q) k =
    xp (ix3 ⟨q / 2048 % 8, Nat.mod_lt _ (by decide)⟩ ⟨q % 2048, Nat.mod_lt _ (by decide)⟩ k) := rfl
theorem src_sample (q : Nat) (k : Fin 1024) : src xp xs me (2, q) k =
    xs (ix3 ⟨q / 16384 % 2, Nat.mod_lt _ (by decide)⟩ ⟨q % 16384, Nat.mod_lt _ (by decide)⟩ k) := rfl

theorem under_src (a b : Vec Ideal S512x1024 .f32) (kind u v : Nat) (k : Fin 1024)
    (ha : ∀ (r : Fin 512), a (ix2 r k) = src xp xs me (kind, 512 * u + r.val) k)
    (hb : ∀ (r : Fin 512), b (ix2 r k) = src xp xs me (kind, 512 * v + r.val) k) (q : Nat) (hq : q < 1024) :
    under a b q k = src xp xs me (kind, if q < 512 then 512 * u + q else 512 * v + (q - 512)) k := by
  unfold under
  by_cases h : q < 512
  · rw [if_pos h, if_pos h, ha]
    exact congrArg (fun z => src xp xs me (kind, 512 * u + z) k) (Nat.mod_eq_of_lt h)
  · rw [if_neg h, if_neg h, hb]
    exact congrArg (fun z => src xp xs me (kind, 512 * v + z) k) (show q % 512 = q - 512 by omega)

/-- What a tile gathers, row by row, once its blocks are known. -/
theorem rows_src (n : Fin 97) (pa pb sa sb : Vec Ideal S512x1024 .f32) (m4 : Vec Ideal S16x1024 .f32) (k : Fin 1024)
    (h0 : ∀ r : Fin 512, pa (ix2 r k) = src xp xs me (1, 512 * clip 31#32 (Scalar.addi (lit0 n) 0#32) + r.val) k)
    (h1 : ∀ r : Fin 512, pb (ix2 r k) = src xp xs me (1, 512 * clip 31#32 (Scalar.addi (lit0 n) 1#32) + r.val) k)
    (h2 : ∀ r : Fin 512, sa (ix2 r k) = src xp xs me (2, 512 * clip 63#32 (Scalar.addi (lit1 n) 0#32) + r.val) k)
    (h3 : ∀ r : Fin 512, sb (ix2 r k) = src xp xs me (2, 512 * clip 63#32 (Scalar.addi (lit1 n) 1#32) + r.val) k)
    (h4 : ∀ r : Fin 16, m4 (ix2 r k) = me (ix2 r k)) (r : Fin 512) :
    rows n pa pb sa sb m4 (ix2 r k) = src xp xs me (origin (512 * n.val + r.val)) k := by
  rw [← gathers]
  have hd : ∀ s q : Nat, q < 1024 → source s pa pb sa sb q k = src xp xs me (drawn n s q) k := fun s q hq => by
    unfold source drawn
    by_cases hs : s = 0
    · rw [if_pos hs, if_pos hs]; exact under_src xp xs me pa pb 1 _ _ k h0 h1 q hq
    · rw [if_neg hs, if_neg hs]; exact under_src xp xs me sa sb 2 _ _ k h2 h3 q hq
  unfold taken
  by_cases hm : (lit8 n).toNat ≤ r.val ∧ r.val < (lit8 n).toNat + 16
  · rw [rows_meta n pa pb sa sb m4 r k hm, if_pos hm, h4]
    show _ = me _
    refine congrArg (fun z => me (ix2 z k)) (Fin.ext ?_)
    show r.val - (lit8 n).toNat = (r.val - (lit8 n).toNat) % 16
    omega
  · rw [rows_rest n pa pb sa sb m4 r k hm, if_neg hm]
    by_cases h9 : r.val < (lit9 n).toNat
    · have hr := reach n r h9 hm
      rw [if_pos h9, if_pos h9]
      by_cases h8 : r.val < (lit8 n).toNat
      · rw [if_pos h8] at hr
        rw [if_pos h8, if_pos h8]; exact hd _ _ hr
      · rw [if_neg h8] at hr
        rw [if_neg h8, if_neg h8]; exact hd _ _ hr
    · rw [if_neg h9, if_neg h9]
      show _ = (0 : EReal)
      exact Ideal.ofBits_zero_f32
end

end Cert.First

end
-- ==== Proof.FirstValue.lean ====
/- What the first feed-forward call computes: the packed result after the run, at row `r` and column `c`, is the feed-forward
   half step of the row that packed place holds. -/
module

public import proofs.«01_k».proof.Proof.FirstRun
public import proofs.«01_k».proof.Proof.FirstSource
public import Idealize.ShloMosaic.Lib.StableHlo.ReadAt

@[expose] public section

set_option maxRecDepth 16384

noncomputable section

namespace Cert.First

open Cert.Kernel4Ideal Cert.Kernel4Ideal.Gen Idealize.ShloMosaic Idealize.ShloMosaic.TcCoe Idealize.SL.Sem
open Cert.RowMath Cert.RowBlock

variable (m : (ℓ : Loc nD τ sig) → Buf (Elt Ideal) ℓ) (ρ : Dev nD → PrngReg)

/-- Packed row `R` of the arguments. -/
def packRow (c : Dev nD) (R : Nat) (k : Fin 1024) : EReal :=
  src (m ((c : Thread nD τ).loc main_arg0)) (m ((c : Thread nD τ).loc main_arg1)) (m ((c : Thread nD τ).loc main_arg2)) (origin R) k

/-- The result: the half step of every packed row. -/
def G (c : Dev nD) : S49664x1024.Idx → EReal := fun i =>
  half (packRow m c (i 0).val) (fun k => m ((c : Thread nD τ).loc main_arg3) (ix1 k))
    (fun k => m ((c : Thread nD τ).loc main_arg4) (ix1 k)) (fun k j => m ((c : Thread nD τ).loc main_arg5) (ix2 k j))
    (fun k j => m ((c : Thread nD τ).loc main_arg6) (ix2 k j)) (fun j k => m ((c : Thread nD τ).loc main_arg7) (ix2 j k)) (i 1)

/-- The result's block at a tile is the tile's own 512 rows. -/
theorem place10 : ∀ t : Fin grid0.N, (grid0.coords t 0).val = t.val := by decide +kernel

theorem index10' : ∀ t : Fin grid0.N, cc0_transform_10 (grid0.coords t) (0 : Fin 2) = t.val := by decide +kernel
theorem index10 (t : Fin (cfgM (F := Ideal)).N) : ((cfgM (F := Ideal)).win 10).index t (0 : Fin 2) = t.val := by
  show cc0_transform_10 (grid0.coords t) (0 : Fin 2) = t.val
  exact index10' t

/-- The prompts and the samples, flattened, row by row. -/
theorem V0 (c : Dev nD) (R : Fin 16384) (k : Fin 1024) : V m c main_v0 (ix2 R k) =
    m ((c : Thread nD τ).loc main_arg0) (ix3 ⟨R.val / 2048, by omega⟩ ⟨R.val % 2048, Nat.mod_lt _ (by decide)⟩ k) := by
  unfold V
  after_reads_at
theorem V1 (c : Dev nD) (R : Fin 32768) (k : Fin 1024) : V m c main_v1 (ix2 R k) =
    m ((c : Thread nD τ).loc main_arg1) (ix3 ⟨R.val / 16384, by omega⟩ ⟨R.val % 16384, Nat.mod_lt _ (by decide)⟩ k) := by
  unfold V
  after_reads_at

theorem place0_at (t : Fin (cfgM (F := Ideal)).N) : cc0_transform_0 (F := Ideal) k0_off1_inb numel1_S1 tbl (grid0.coords t) (0 : Fin 2) =
    clip 31#32 (Scalar.addi (lit0 (at' t)) 0#32) := by
  rw [place0]
  exact Matrix.cons_val_zero _ _
theorem index0_eq (t : Fin (cfgM (F := Ideal)).N) :
    ((cfgM (F := Ideal)).win 0).index t = cc0_transform_0 (F := Ideal) k0_off1_inb numel1_S1 tbl (grid0.coords t) := rfl
theorem index0 (t : Fin (cfgM (F := Ideal)).N) :
    ((cfgM (F := Ideal)).win 0).index t (0 : Fin 2) = clip 31#32 (Scalar.addi (lit0 (at' t)) 0#32) :=
  (congrFun (index0_eq t) 0).trans (place0_at t)

theorem blk0 (c : Dev nD) (t : Fin (cfgM (F := Ideal)).N) (k : Fin 1024) (r : Fin 512) :
    iblk m c 0 t (ix2 r k) = src (m ((c : Thread nD τ).loc main_arg0)) (m ((c : Thread nD τ).loc main_arg1))
      (m ((c : Thread nD τ).loc main_arg2)) (1, 512 * clip 31#32 (Scalar.addi (lit0 (at' t)) 0#32) + r.val) k := by
  have hc := (clipped (at' t)).1
  have hR : 512 * clip 31#32 (Scalar.addi (lit0 (at' t)) 0#32) + r.val < 16384 := by omega
  have h : (((cfgM (F := Ideal)).win 0).blk t).view.emb (ix2 r k) =
      ix2 ⟨512 * clip 31#32 (Scalar.addi (lit0 (at' t)) 0#32) + r.val, hR⟩ k := by
    refine funext fun a => Fin.ext ?_
    match a with
    | ⟨0, _⟩ =>
      show ((cfgM (F := Ideal)).win 0).index t (0 : Fin 2) * 512 + 1 * r.val = 512 * clip 31#32 (Scalar.addi (lit0 (at' t)) 0#32) + r.val
      rw [index0]
      omega
    | ⟨1, _⟩ => show 0 * 1024 + 1 * k.val = k.val; omega
  show V m c main_v0 ((((cfgM (F := Ideal)).win 0).blk t).view.emb (ix2 r k)) = _
  rw [h, V0]
  generalize 512 * clip 31#32 (Scalar.addi (lit0 (at' t)) 0#32) + r.val = R at hR
  show _ = m ((c : Thread nD τ).loc main_arg0) (ix3 ⟨R / 2048 % 8, _⟩ ⟨R % 2048, _⟩ k)
  refine congrArg (fun z => m ((c : Thread nD τ).loc main_arg0) (ix3 z ⟨R % 2048, _⟩ k)) (Fin.ext ?_)
  show R / 2048 = R / 2048 % 8
  omega

theorem place1_at (t : Fin (cfgM (F := Ideal)).N) : cc0_transform_1 (F := Ideal) k0_off1_inb numel1_S1 tbl (grid0.coords t) (0 : Fin 2) =
    clip 31#32 (Scalar.addi (lit0 (at' t)) 1#32) := by
  rw [place1]
  exact Matrix.cons_val_zero _ _
theorem index1_eq (t : Fin (cfgM (F := Ideal)).N) :
    ((cfgM (F := Ideal)).win 1).index t = cc0_transform_1 (F := Ideal) k0_off1_inb numel1_S1 tbl (grid0.coords t) := rfl
theorem index1 (t : Fin (cfgM (F := Ideal)).N) :
    ((cfgM (F := Ideal)).win 1).index t (0 : Fin 2) = clip 31#32 (Scalar.addi (lit0 (at' t)) 1#32) :=
  (congrFun (index1_eq t) 0).trans (place1_at t)

theorem blk1 (c : Dev nD) (t : Fin (cfgM (F := Ideal)).N) (k : Fin 1024) (r : Fin 512) :
    iblk m c 1 t (ix2 r k) = src (m ((c : Thread nD τ).loc main_arg0)) (m ((c : Thread nD τ).loc main_arg1))
      (m ((c : Thread nD τ).loc main_arg2)) (1, 512 * clip 31#32 (Scalar.addi (lit0 (at' t)) 1#32) + r.val) k := by
  have hc := (clipped (at' t)).2.1
  have hR : 512 * clip 31#32 (Scalar.addi (lit0 (at' t)) 1#32) + r.val < 16384 := by omega
  have h : (((cfgM (F := Ideal)).win 1).blk t).view.emb (ix2 r k) =
      ix2 ⟨512 * clip 31#32 (Scalar.addi (lit0 (at' t)) 1#32) + r.val, hR⟩ k := by
    refine funext fun a => Fin.ext ?_
    match a with
    | ⟨0, _⟩ =>
      show ((cfgM (F := Ideal)).win 1).index t (0 : Fin 2) * 512 + 1 * r.val = 512 * clip 31#32 (Scalar.addi (lit0 (at' t)) 1#32) + r.val
      rw [index1]
      omega
    | ⟨1, _⟩ => show 0 * 1024 + 1 * k.val = k.val; omega
  show V m c main_v0 ((((cfgM (F := Ideal)).win 1).blk t).view.emb (ix2 r k)) = _
  rw [h, V0]
  generalize 512 * clip 31#32 (Scalar.addi (lit0 (at' t)) 1#32) + r.val = R at hR
  show _ = m ((c : Thread nD τ).loc main_arg0) (ix3 ⟨R / 2048 % 8, _⟩ ⟨R % 2048, _⟩ k)
  refine congrArg (fun z => m ((c : Thread nD τ).loc main_arg0) (ix3 z ⟨R % 2048, _⟩ k)) (Fin.ext ?_)
  show R / 2048 = R / 2048 % 8
  omega

theorem place2_at (t : Fin (cfgM (F := Ideal)).N) : cc0_transform_2 (F := Ideal) k0_off1_inb numel1_S1 tbl (grid0.coords t) (0 : Fin 2) =
    clip 63#32 (Scalar.addi (lit1 (at' t)) 0#32) := by
  rw [place2]
  exact Matrix.cons_val_zero _ _
theorem index2_eq (t : Fin (cfgM (F := Ideal)).N) :
    ((cfgM (F := Ideal)).win 2).index t = cc0_transform_2 (F := Ideal) k0_off1_inb numel1_S1 tbl (grid0.coords t) := rfl
theorem index2 (t : Fin (cfgM (F := Ideal)).N) :
    ((cfgM (F := Ideal)).win 2).index t (0 : Fin 2) = clip 63#32 (Scalar.addi (lit1 (at' t)) 0#32) :=
  (congrFun (index2_eq t) 0).trans (place2_at t)

theorem blk2 (c : Dev nD) (t : Fin (cfgM (F := Ideal)).N) (k : Fin 1024) (r : Fin 512) :
    iblk m c 2 t (ix2 r k) = src (m ((c : Thread nD τ).loc main_arg0)) (m ((c : Thread nD τ).loc main_arg1))
      (m ((c : Thread nD τ).loc main_arg2)) (2, 512 * clip 63#32 (Scalar.addi (lit1 (at' t)) 0#32) + r.val) k := by
  have hc := (clipped (at' t)).2.2.1
  have hR : 512 * clip 63#32 (Scalar.addi (lit1 (at' t)) 0#32) + r.val < 32768 := by omega
  have h : (((cfgM (F := Ideal)).win 2).blk t).view.emb (ix2 r k) =
      ix2 ⟨512 * clip 63#32 (Scalar.addi (lit1 (at' t)) 0#32) + r.val, hR⟩ k := by
    refine funext fun a => Fin.ext ?_
    match a with
    | ⟨0, _⟩ =>
      show ((cfgM (F := Ideal)).win 2).index t (0 : Fin 2) * 512 + 1 * r.val = 512 * clip 63#32 (Scalar.addi (lit1 (at' t)) 0#32) + r.val
      rw [index2]
      omega
    | ⟨1, _⟩ => show 0 * 1024 + 1 * k.val = k.val; omega
  show V m c main_v1 ((((cfgM (F := Ideal)).win 2).blk t).view.emb (ix2 r k)) = _
  rw [h, V1]
  generalize 512 * clip 63#32 (Scalar.addi (lit1 (at' t)) 0#32) + r.val = R at hR
  show _ = m ((c : Thread nD τ).loc main_arg1) (ix3 ⟨R / 16384 % 2, _⟩ ⟨R % 16384, _⟩ k)
  refine congrArg (fun z => m ((c : Thread nD τ).loc main_arg1) (ix3 z ⟨R % 16384, _⟩ k)) (Fin.ext ?_)
  show R / 16384 = R / 16384 % 2
  omega

theorem place3_at (t : Fin (cfgM (F := Ideal)).N) : cc0_transform_3 (F := Ideal) k0_off1_inb numel1_S1 tbl (grid0.coords t) (0 : Fin 2) =
    clip 63#32 (Scalar.addi (lit1 (at' t)) 1#32) := by
  rw [place3]
  exact Matrix.cons_val_zero _ _
theorem index3_eq (t : Fin (cfgM (F := Ideal)).N) :
    ((cfgM (F := Ideal)).win 3).index t = cc0_transform_3 (F := Ideal) k0_off1_inb numel1_S1 tbl (grid0.coords t) := rfl
theorem index3 (t : Fin (cfgM (F := Ideal)).N) :
    ((cfgM (F := Ideal)).win 3).index t (0 : Fin 2) = clip 63#32 (Scalar.addi (lit1 (at' t)) 1#32) :=
  (congrFun (index3_eq t) 0).trans (place3_at t)

theorem blk3 (c : Dev nD) (t : Fin (cfgM (F := Ideal)).N) (k : Fin 1024) (r : Fin 512) :
    iblk m c 3 t (ix2 r k) = src (m ((c : Thread nD τ).loc main_arg0)) (m ((c : Thread nD τ).loc main_arg1))
      (m ((c : Thread nD τ).loc main_arg2)) (2, 512 * clip 63#32 (Scalar.addi (lit1 (at' t)) 1#32) + r.val) k := by
  have hc := (clipped (at' t)).2.2.2
  have hR : 512 * clip 63#32 (Scalar.addi (lit1 (at' t)) 1#32) + r.val < 32768 := by omega
  have h : (((cfgM (F := Ideal)).win 3).blk t).view.emb (ix2 r k) =
      ix2 ⟨512 * clip 63#32 (Scalar.addi (lit1 (at' t)) 1#32) + r.val, hR⟩ k := by
    refine funext fun a => Fin.ext ?_
    match a with
    | ⟨0, _⟩ =>
      show ((cfgM (F := Ideal)).win 3).index t (0 : Fin 2) * 512 + 1 * r.val = 512 * clip 63#32 (Scalar.addi (lit1 (at' t)) 1#32) + r.val
      rw [index3]
      omega
    | ⟨1, _⟩ => show 0 * 1024 + 1 * k.val = k.val; omega
  show V m c main_v1 ((((cfgM (F := Ideal)).win 3).blk t).view.emb (ix2 r k)) = _
  rw [h, V1]
  generalize 512 * clip 63#32 (Scalar.addi (lit1 (at' t)) 1#32) + r.val = R at hR
  show _ = m ((c : Thread nD τ).loc main_arg1) (ix3 ⟨R / 16384 % 2, _⟩ ⟨R % 16384, _⟩ k)
  refine congrArg (fun z => m ((c : Thread nD τ).loc main_arg1) (ix3 z ⟨R % 16384, _⟩ k)) (Fin.ext ?_)
  show R / 16384 = R / 16384 % 2
  omega

theorem blk4 (c : Dev nD) (t : Fin (cfgM (F := Ideal)).N) (k : Fin 1024) (r : Fin 16) :
    iblk m c 4 t (ix2 r k) = m ((c : Thread nD τ).loc main_arg2) (ix2 r k) := by
  show V m c main_arg2 ((((cfgM (F := Ideal)).win 4).blk t).view.emb (ix2 r k)) = _
  rw [V_kept m c main_arg2 (by decide)]
  refine congrArg _ (funext fun a => Fin.ext ?_)
  match a with
  | ⟨0, _⟩ => show 0 * 16 + 1 * r.val = r.val; omega
  | ⟨1, _⟩ => show 0 * 1024 + 1 * k.val = k.val; omega

theorem blk5 (c : Dev nD) (t : Fin (cfgM (F := Ideal)).N) (k : Fin 1024) :
    iblk m c 5 t (ix2 0 k) = m ((c : Thread nD τ).loc main_arg3) (ix1 k) := by
  have h : (((cfgM (F := Ideal)).win 5).blk t).view.emb (ix2 0 k) = ix2 0 k := by
    refine funext fun a => Fin.ext ?_
    match a with
    | ⟨0, _⟩ => show 0 * 1 + 1 * 0 = 0; omega
    | ⟨1, _⟩ => show 0 * 1024 + 1 * k.val = k.val; omega
  show V m c main_v2 ((((cfgM (F := Ideal)).win 5).blk t).view.emb (ix2 0 k)) = _
  rw [h]
  unfold V
  after_reads_at

theorem blk6 (c : Dev nD) (t : Fin (cfgM (F := Ideal)).N) (k : Fin 1024) :
    iblk m c 6 t (ix2 0 k) = m ((c : Thread nD τ).loc main_arg4) (ix1 k) := by
  have h : (((cfgM (F := Ideal)).win 6).blk t).view.emb (ix2 0 k) = ix2 0 k := by
    refine funext fun a => Fin.ext ?_
    match a with
    | ⟨0, _⟩ => show 0 * 1 + 1 * 0 = 0; omega
    | ⟨1, _⟩ => show 0 * 1024 + 1 * k.val = k.val; omega
  show V m c main_v3 ((((cfgM (F := Ideal)).win 6).blk t).view.emb (ix2 0 k)) = _
  rw [h]
  unfold V
  after_reads_at

theorem blk7 (c : Dev nD) (t : Fin (cfgM (F := Ideal)).N) (k : Fin 1024) (j : Fin 2816) :
    iblk m c 7 t (ix2 k j) = m ((c : Thread nD τ).loc main_arg5) (ix2 k j) := by
  have h : (((cfgM (F := Ideal)).win 7).blk t).view.emb (ix2 k j) = ix2 k j := by
    refine funext fun a => Fin.ext ?_
    match a with
    | ⟨0, _⟩ => show 0 * 1024 + 1 * k.val = k.val; omega
    | ⟨1, _⟩ => show 0 * 2816 + 1 * j.val = j.val; omega
  show V m c main_v4 ((((cfgM (F := Ideal)).win 7).blk t).view.emb (ix2 k j)) = _
  rw [h]
  unfold V
  after_reads_at

theorem blk8 (c : Dev nD) (t : Fin (cfgM (F := Ideal)).N) (k : Fin 1024) (j : Fin 2816) :
    iblk m c 8 t (ix2 k j) = m ((c : Thread nD τ).loc main_arg6) (ix2 k j) := by
  have h : (((cfgM (F := Ideal)).win 8).blk t).view.emb (ix2 k j) = ix2 k j := by
    refine funext fun a => Fin.ext ?_
    match a with
    | ⟨0, _⟩ => show 0 * 1024 + 1 * k.val = k.val; omega
    | ⟨1, _⟩ => show 0 * 2816 + 1 * j.val = j.val; omega
  show V m c main_v5 ((((cfgM (F := Ideal)).win 8).blk t).view.emb (ix2 k j)) = _
  rw [h]
  unfold V
  after_reads_at

theorem blk9 (c : Dev nD) (t : Fin (cfgM (F := Ideal)).N) (j : Fin 2816) (k : Fin 1024) :
    iblk m c 9 t (ix2 j k) = m ((c : Thread nD τ).loc main_arg7) (ix2 j k) := by
  have h : (((cfgM (F := Ideal)).win 9).blk t).view.emb (ix2 j k) = ix2 j k := by
    refine funext fun a => Fin.ext ?_
    match a with
    | ⟨0, _⟩ => show 0 * 2816 + 1 * j.val = j.val; omega
    | ⟨1, _⟩ => show 0 * 1024 + 1 * k.val = k.val; omega
  show V m c main_v6 ((((cfgM (F := Ideal)).win 9).blk t).view.emb (ix2 j k)) = _
  rw [h]
  unfold V
  after_reads_at

/-- The rows a tile gathers are its packed rows. -/
theorem gathered_row (c : Dev nD) (t : Fin (cfgM (F := Ideal)).N) (r : Fin 512) (k : Fin 1024) :
    rows (at' t) (iblk m c 0 t) (iblk m c 1 t) (iblk m c 2 t) (iblk m c 3 t) (iblk m c 4 t) (ix2 r k) = packRow m c (512 * t.val + r.val) k := by
  have e : (at' t).val = t.val := (pos_val (grid0.coords t)).trans (place10 t)
  refine (rows_src _ _ _ (at' t) (iblk m c 0 t) (iblk m c 1 t) (iblk m c 2 t) (iblk m c 3 t) (iblk m c 4 t) k
    (blk0 m c t k) (blk1 m c t k) (blk2 m c t k) (blk3 m c t k) (blk4 m c t k) r).trans ?_
  rw [e]
  rfl

/-- What a tile writes back is its block of `G`. -/
theorem flushed_eq (c : Dev nD) (t : Fin (cfgM (F := Ideal)).N) :
    (dats m 0 c).flushed 10 t = (((cfgM (F := Ideal)).win 10).blk t).view.read (Elt Ideal) (G m c) := by
  show (dats m 0 c).after 10 t = _
  rw [after10]
  funext y
  obtain ⟨r, k, rfl⟩ : ∃ (r : Fin 512) (k : Fin 1024), y = ix2 r k := ⟨y 0, y 1, eq_ix2 y⟩
  have ht : t.val < 97 := lt_of_lt_of_eq t.isLt N_0
  have h : 512 * t.val + r.val < 49664 := by omega
  have e : (grid0.coords t 0).val = t.val := place10 t
  have he : (((cfgM (F := Ideal)).win 10).blk t).view.emb (ix2 r k) = ix2 ⟨512 * t.val + r.val, h⟩ k := by
    refine funext fun a => Fin.ext ?_
    match a with
    | ⟨0, _⟩ => show ((cfgM (F := Ideal)).win 10).index t (0 : Fin 2) * 512 + 1 * r.val = 512 * t.val + r.val; rw [index10]; omega
    | ⟨1, _⟩ => show 0 * 1024 + 1 * k.val = k.val; omega
  show halfB (F := Ideal) _ _ _ _ _ _ _ (ix2 r k) = G m c ((((cfgM (F := Ideal)).win 10).blk t).view.emb (ix2 r k))
  rw [he, halfB_apply]
  simp only [gathered_row, blk5, blk6, blk7, blk8, blk9]
  rfl

/-- Every element is in the block of the tile its row falls in. -/
theorem cover10 (i : S49664x1024.Idx) : ∃ t : Fin (cfgM (F := Ideal)).N, ((cfgM (F := Ideal)).win 10).flush t = true ∧
    i ∈ (((cfgM (F := Ideal)).win 10).blk t).view.set := by
  obtain ⟨r, k, rfl⟩ : ∃ (r : Fin 49664) (k : Fin 1024), i = ix2 r k := ⟨i 0, i 1, eq_ix2 i⟩
  have hr := r.isLt
  have hk := k.isLt
  have hN : r.val / 512 < (cfgM (F := Ideal)).N := by rw [show (cfgM (F := Ideal)).N = 97 from N_0]; omega
  refine ⟨⟨r.val / 512, hN⟩, flush10 _, ?_⟩
  rw [show (((cfgM (F := Ideal)).win 10).blk _).view.set = _ from View.set_slice_whole _ _]
  refine Rect.mem_set_unit.mpr fun a => ?_
  match a with
  | ⟨0, _⟩ =>
    show ((cfgM (F := Ideal)).win 10).index ⟨r.val / 512, hN⟩ (0 : Fin 2) * 512 ≤ r.val ∧
      r.val < ((cfgM (F := Ideal)).win 10).index ⟨r.val / 512, hN⟩ (0 : Fin 2) * 512 + 512
    rw [index10]
    show r.val / 512 * 512 ≤ r.val ∧ r.val < r.val / 512 * 512 + 512
    omega
  | ⟨1, _⟩ =>
    show 0 * 1024 ≤ k.val ∧ k.val < 0 * 1024 + 1024
    omega

/-- The run, its result named, its arguments and its counters as they were. -/
theorem run_all : θ_run (defs (F := Ideal)) (onTc (τ := τ) (main (F := Ideal))) ⟨m, fun _ => 0, ρ⟩ fun r => (∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0 :=
  (θ_run defs _ _).mono (fun _ h => ⟨fun c =>
    ⟨((h.1 c).1 10).trans ((dats m 0 c).arrAt_eq_of_cover 10 (G m c) (fun t _ => flushed_eq m c t) cover10),
     ((h.1 c).2 main_arg0 (by decide : main_arg0 ∈ Pipeline.restRefs sig spec0)).trans (V_kept m c main_arg0 (by decide)),
     ((h.1 c).2 main_arg1 (by decide : main_arg1 ∈ Pipeline.restRefs sig spec0)).trans (V_kept m c main_arg1 (by decide)),
     ((h.1 c).1 4).trans (((dats m 0 c).arrAt_in 4 rfl _).trans ((A_eq m c 4).trans (V_kept m c main_arg2 (by decide)))),
     ((h.1 c).2 main_arg3 (by decide : main_arg3 ∈ Pipeline.restRefs sig spec0)).trans (V_kept m c main_arg3 (by decide)),
     ((h.1 c).2 main_arg4 (by decide : main_arg4 ∈ Pipeline.restRefs sig spec0)).trans (V_kept m c main_arg4 (by decide)),
     ((h.1 c).2 main_arg5 (by decide : main_arg5 ∈ Pipeline.restRefs sig spec0)).trans (V_kept m c main_arg5 (by decide)),
     ((h.1 c).2 main_arg6 (by decide : main_arg6 ∈ Pipeline.restRefs sig spec0)).trans (V_kept m c main_arg6 (by decide)),
     ((h.1 c).2 main_arg7 (by decide : main_arg7 ∈ Pipeline.restRefs sig spec0)).trans (V_kept m c main_arg7 (by decide))⟩, h.2⟩)
    (run_arrays m ρ)

end Cert.First

end
-- ==== Proof.FirstReference.lean ====
/- What the plain-jax reference of the first feed-forward call computes, element by element: the half step of the packed row. -/
module

public import proofs.«01_k».proof.Proof.MidReference
public import proofs.«01_k».proof.Proof.FirstSource
public import proofs.«01_k».proof.Proof.Gen.Reference4Ideal.Run
public import Idealize.ShloMosaic.Lib.Pointwise
public import Idealize.ShloMosaic.Lib.KernelVsHost

@[expose] public section

set_option maxRecDepth 16384

noncomputable section

namespace Cert.First

open Cert.Reference4Ideal Cert.Reference4Ideal.Gen Idealize.ShloMosaic Idealize.ShloMosaic.TcCoe Idealize.SL.Sem
open Cert.RowMath

/-- The prompts, each under the meta tokens. -/
def joinP (xp : FVec Ideal S8x2048x1024 .f32) (me : FVec Ideal S16x1024 .f32) : FVec Ideal S8x2064x1024 .f32 :=
  concatenate S8x2064x1024 1 [⟨S8x16x1024, broadcastInDim S8x16x1024 ![0, 1, 2] bcast_S1x16x1024_S8x16x1024_0_1_2
    (broadcastInDim S1x16x1024 ![1, 2] bcast_S16x1024_S1x16x1024_1_2 me)⟩, ⟨S8x2048x1024, xp⟩]
    concatenates_S8x16x1024_S8x2048x1024_S8x2064x1024_d1

/-- The samples, each under the meta tokens. -/
def joinS (xs : FVec Ideal S2x16384x1024 .f32) (me : FVec Ideal S16x1024 .f32) : FVec Ideal S2x16400x1024 .f32 :=
  concatenate S2x16400x1024 1 [⟨S2x16x1024, broadcastInDim S2x16x1024 ![0, 1, 2] bcast_S1x16x1024_S2x16x1024_0_1_2
    (broadcastInDim S1x16x1024 ![1, 2] bcast_S16x1024_S1x16x1024_1_2 me)⟩, ⟨S2x16384x1024, xs⟩]
    concatenates_S2x16x1024_S2x16384x1024_S2x16400x1024_d1

/-- All sequences' rows, one after the other. -/
def flat (xp : FVec Ideal S8x2048x1024 .f32) (xs : FVec Ideal S2x16384x1024 .f32) (me : FVec Ideal S16x1024 .f32) :
    FVec Ideal S49312x1024 .f32 :=
  concatenate S49312x1024 0 [⟨S16512x1024, shapeCast _ (joinP xp me) shapeCasts_S8x2064x1024_S16512x1024⟩,
    ⟨S32800x1024, shapeCast _ (joinS xs me) shapeCasts_S2x16400x1024_S32800x1024⟩] concatenates_S16512x1024_S32800x1024_S49312x1024_d0

/-- The packed array: all rows, then zeros up to a whole number of tiles. -/
def packed (xp : FVec Ideal S8x2048x1024 .f32) (xs : FVec Ideal S2x16384x1024 .f32) (me : FVec Ideal S16x1024 .f32) :
    FVec Ideal S49664x1024 .f32 :=
  pad S49664x1024 ![0, 0] ![352, 0] ![0, 0] (flat xp xs me) (sitofp .f32 (constantI S_ 32 0#32)) pads_S49312x1024_S49664x1024_03520_000 h_S_

variable (xp : FVec Ideal S8x2048x1024 .f32) (xs : FVec Ideal S2x16384x1024 .f32) (me : FVec Ideal S16x1024 .f32)

theorem joinP_meta (b : Fin 8) (p : Fin 2064) (k : Fin 1024) (h : p.val < 16) : joinP xp me (ix3 b p k) = me (ix2 ⟨p.val, h⟩ k) := by
  unfold joinP
  refine (concatenate_pair_apply_left (s₁ := S8x16x1024) (s₂ := S8x2048x1024) 1 _ _ _ (ix3 b p k) rfl (ix3 (n0 := 8) (n1 := 16) (n2 := 1024) b ⟨p.val, h⟩ k) ?_).trans ?_
  · intro a
    match a with
    | ⟨0, _⟩ => rfl
    | ⟨1, _⟩ => rfl
    | ⟨2, _⟩ => rfl
  · pointwise

theorem joinP_rest (b : Fin 8) (p : Fin 2064) (k : Fin 1024) (h : ¬p.val < 16) :
    joinP xp me (ix3 b p k) = xp (ix3 b ⟨p.val - 16, by omega⟩ k) := by
  unfold joinP
  refine concatenate_pair_apply_right (s₁ := S8x16x1024) (s₂ := S8x2048x1024) 1 _ _ _ (ix3 b p k) rfl rfl
    (ix3 (n0 := 8) (n1 := 2048) (n2 := 1024) b ⟨p.val - 16, by omega⟩ k) ?_ ?_
  · intro a ha
    match a, ha with
    | ⟨0, _⟩, _ => rfl
    | ⟨1, _⟩, ha => exact absurd rfl ha
    | ⟨2, _⟩, _ => rfl
  · show p.val - 16 + 16 = p.val
    omega

theorem joinS_meta (b : Fin 2) (p : Fin 16400) (k : Fin 1024) (h : p.val < 16) : joinS xs me (ix3 b p k) = me (ix2 ⟨p.val, h⟩ k) := by
  unfold joinS
  refine (concatenate_pair_apply_left (s₁ := S2x16x1024) (s₂ := S2x16384x1024) 1 _ _ _ (ix3 b p k) rfl (ix3 (n0 := 2) (n1 := 16) (n2 := 1024) b ⟨p.val, h⟩ k) ?_).trans ?_
  · intro a
    match a with
    | ⟨0, _⟩ => rfl
    | ⟨1, _⟩ => rfl
    | ⟨2, _⟩ => rfl
  · pointwise

theorem joinS_rest (b : Fin 2) (p : Fin 16400) (k : Fin 1024) (h : ¬p.val < 16) :
    joinS xs me (ix3 b p k) = xs (ix3 b ⟨p.val - 16, by omega⟩ k) := by
  unfold joinS
  refine concatenate_pair_apply_right (s₁ := S2x16x1024) (s₂ := S2x16384x1024) 1 _ _ _ (ix3 b p k) rfl rfl
    (ix3 (n0 := 2) (n1 := 16384) (n2 := 1024) b ⟨p.val - 16, by omega⟩ k) ?_ ?_
  · intro a ha
    match a, ha with
    | ⟨0, _⟩, _ => rfl
    | ⟨1, _⟩, ha => exact absurd rfl ha
    | ⟨2, _⟩, _ => rfl
  · show p.val - 16 + 16 = p.val
    omega

theorem castP (y : FVec Ideal S8x2064x1024 .f32) (R : Fin 16512) (k : Fin 1024) :
    shapeCast S16512x1024 y shapeCasts_S8x2064x1024_S16512x1024 (ix2 R k) = y (ix3 ⟨R.val / 2064, by omega⟩ ⟨R.val % 2064, Nat.mod_lt _ (by decide)⟩ k) := by
  pointwise

theorem castS (y : FVec Ideal S2x16400x1024 .f32) (R : Fin 32800) (k : Fin 1024) :
    shapeCast S32800x1024 y shapeCasts_S2x16400x1024_S32800x1024 (ix2 R k) = y (ix3 ⟨R.val / 16400, by omega⟩ ⟨R.val % 16400, Nat.mod_lt _ (by decide)⟩ k) := by
  pointwise

theorem flat_prompt (R : Fin 49312) (k : Fin 1024) (h : R.val < 16512) :
    flat xp xs me (ix2 R k) = joinP xp me (ix3 ⟨R.val / 2064, by omega⟩ ⟨R.val % 2064, Nat.mod_lt _ (by decide)⟩ k) := by
  unfold flat
  refine (concatenate_pair_apply_left (s₁ := S16512x1024) (s₂ := S32800x1024) 0 _ _ _ (ix2 R k) rfl (ix2 (n0 := 16512) (n1 := 1024) ⟨R.val, h⟩ k) ?_).trans ?_
  · intro a
    match a with
    | ⟨0, _⟩ => rfl
    | ⟨1, _⟩ => rfl
  · exact castP (joinP xp me) ⟨R.val, h⟩ k

theorem flat_sample (R : Fin 49312) (k : Fin 1024) (h : ¬R.val < 16512) :
    flat xp xs me (ix2 R k) = joinS xs me (ix3 ⟨(R.val - 16512) / 16400, by omega⟩ ⟨(R.val - 16512) % 16400, Nat.mod_lt _ (by decide)⟩ k) := by
  unfold flat
  refine (concatenate_pair_apply_right (s₁ := S16512x1024) (s₂ := S32800x1024) 0 _ _ _ (ix2 R k) rfl rfl (ix2 (n0 := 32800) (n1 := 1024) ⟨R.val - 16512, by omega⟩ k) ?_ ?_).trans ?_
  · intro a ha
    match a, ha with
    | ⟨0, _⟩, ha => exact absurd rfl ha
    | ⟨1, _⟩, _ => rfl
  · show R.val - 16512 + 16512 = R.val
    omega
  · exact castS (joinS xs me) ⟨R.val - 16512, by omega⟩ k

theorem packed_in (R : Fin 49664) (k : Fin 1024) (h : R.val < 49312) : packed xp xs me (ix2 R k) = flat xp xs me (ix2 ⟨R.val, h⟩ k) := by
  unfold packed
  refine pad_apply_of_inside _ _ _ _ _ _ _ _ _ ?_
  intro a
  match a with
  | ⟨0, _⟩ => show R.val = 0 + R.val * (0 + 1); omega
  | ⟨1, _⟩ => show k.val = 0 + k.val * (0 + 1); omega

theorem packed_out (R : Fin 49664) (k : Fin 1024) (h : ¬R.val < 49312) : packed xp xs me (ix2 R k) = 0 := by
  unfold packed
  refine (pad_apply_of_not_inside _ _ _ _ _ _ _ (ix2 R k) (0 : Fin 2) ?_).trans ?_
  · rintro ⟨_, _, h'⟩
    have h'' : (R.val - 0) / (0 + 1) < 49312 := h'
    omega
  · show ((((0#32 : BitVec 32).toInt : ℝ)) : EReal) = 0
    simp

/-- The packed array at row `R`: the row that place holds. -/
theorem packed_apply (R : Fin 49664) (k : Fin 1024) : packed xp xs me (ix2 R k) = src xp xs me (origin R.val) k := by
  obtain ⟨R, hR⟩ := R
  unfold origin
  by_cases h1 : R < 16512
  · rw [packed_in xp xs me _ k (show R < 49312 by omega), flat_prompt xp xs me _ k h1, if_pos h1]
    by_cases h2 : R % 2064 < 16
    · rw [joinP_meta xp me _ ⟨R % 2064, Nat.mod_lt _ (by decide)⟩ k h2, if_pos h2]
      rw [src_meta]
      refine congrArg (fun z => me (ix2 z k)) (Fin.ext ?_)
      show R % 2064 = R % 2064 % 16
      omega
    · rw [joinP_rest xp me _ ⟨R % 2064, Nat.mod_lt _ (by decide)⟩ k h2, if_neg h2]
      rw [src_prompt]
      refine congrArg₂ (fun z w => xp (ix3 z w k)) (Fin.ext ?_) (Fin.ext ?_)
      · show R / 2064 = (2048 * (R / 2064) + (R % 2064 - 16)) / 2048 % 8
        omega
      · show R % 2064 - 16 = (2048 * (R / 2064) + (R % 2064 - 16)) % 2048
        omega
  · rw [if_neg h1]
    by_cases h3 : R < 49312
    · rw [packed_in xp xs me _ k h3, flat_sample xp xs me _ k h1, if_pos h3]
      by_cases h2 : (R - 16512) % 16400 < 16
      · rw [joinS_meta xs me _ ⟨(R - 16512) % 16400, Nat.mod_lt _ (by decide)⟩ k h2, if_pos h2]
        rw [src_meta]
        refine congrArg (fun z => me (ix2 z k)) (Fin.ext ?_)
        show (R - 16512) % 16400 = (R - 16512) % 16400 % 16
        omega
      · rw [joinS_rest xs me _ ⟨(R - 16512) % 16400, Nat.mod_lt _ (by decide)⟩ k h2, if_neg h2]
        rw [src_sample]
        refine congrArg₂ (fun z w => xs (ix3 z w k)) (Fin.ext ?_) (Fin.ext ?_)
        · show (R - 16512) / 16400 = (16384 * ((R - 16512) / 16400) + ((R - 16512) % 16400 - 16)) / 16384 % 2
          omega
        · show (R - 16512) % 16400 - 16 = (16384 * ((R - 16512) / 16400) + ((R - 16512) % 16400 - 16)) % 16384
          omega
    · rw [packed_out xp xs me _ k h3, if_neg h3]
      rfl

variable (m : (ℓ : Loc nD τ sig) → Buf (Elt Ideal) ℓ)

/-- The reference's result at row `r` and column `k`. -/
theorem ref_apply (c : Dev nD) (r : Fin 49664) (k : Fin 1024) :
    Cert.Reference4Ideal.Value.res_main_v43 m c (ix2 r k) =
      half (src (m ((c : Thread nD τ).loc main_arg0)) (m ((c : Thread nD τ).loc main_arg1)) (m ((c : Thread nD τ).loc main_arg2)) (origin r.val))
        (fun k => m ((c : Thread nD τ).loc main_arg3) (ix1 k))
        (fun k => m ((c : Thread nD τ).loc main_arg4) (ix1 k)) (fun k j => m ((c : Thread nD τ).loc main_arg5) (ix2 k j))
        (fun k j => m ((c : Thread nD τ).loc main_arg6) (ix2 k j)) (fun j k => m ((c : Thread nD τ).loc main_arg7) (ix2 j k)) k := by
  have e : Cert.Reference4Ideal.Value.res_main_v43 m c =
      Cert.Mid.halfH (packed (m ((c : Thread nD τ).loc main_arg0)) (m ((c : Thread nD τ).loc main_arg1)) (m ((c : Thread nD τ).loc main_arg2)))
        (m ((c : Thread nD τ).loc main_arg3)) (m ((c : Thread nD τ).loc main_arg4))
        (m ((c : Thread nD τ).loc main_arg5)) (m ((c : Thread nD τ).loc main_arg6)) (m ((c : Thread nD τ).loc main_arg7)) := rfl
  rw [e]
  refine (Cert.Mid.halfH_apply _ _ _ _ _ _ r k).trans ?_
  simp only [packed_apply]

end Cert.First

end
-- ==== Proof.First.lean ====
/- The claims about the first feed-forward call: its frame, its named constant, and that kernel and reference end with the same
   packed result. -/
module

public import proofs.«01_k».proof.Defs
public import proofs.«01_k».proof.Proof.FirstValue
public import proofs.«01_k».proof.Proof.FirstReference
public import Idealize.ShloMosaic.Init

@[expose] public section

set_option maxRecDepth 16384

noncomputable section

namespace Cert.First

open Idealize.ShloMosaic Idealize.ShloMosaic.TcCoe Idealize.SL.Sem

/-- The idealized call runs and leaves its arguments and counters as they were. -/
theorem quiet : Cert.quiescent_Kernel4Ideal := fun m g _ =>
  (θ_run (Cert.Kernel4Ideal.defs (F := Ideal)) _ _).mono (fun _ h => ⟨fun c => (h.1 c).2, h.2⟩) (run_all m g)

/-- The reference has no counter. -/
theorem quiet_ref : Cert.quiescent_Reference4Ideal := fun m g _ =>
  (θ_run (Cert.Reference4Ideal.defs (F := Ideal)) _ _).mono (fun r h => ⟨fun c => (h c).2, sem_eq_zero_of_no_sems rfl r.2⟩)
    (Cert.Reference4Ideal.Value.run (F := Ideal) m g)

/-- The kernel's named constant is the value its name says. -/
theorem preserves : Cert.preserves_Kernel4_Kernel4Ideal :=
  IdealRules.named_const.statement _ "neg_log2e" .f32 0xBFB8AA3B#32 _ rfl

/-- From arguments that agree, the kernel's result is the reference's. -/
theorem algebraic : Cert.algebraic_Kernel4Ideal_Reference4Ideal := by
  intro m g m' g' _ hagree
  refine ⟨G m, (θ_run (Cert.Kernel4Ideal.defs (F := Ideal)) _ _).mono (fun _ h c => h.1 c) (run_all m g), ?_⟩
  refine (θ_run (Cert.Reference4Ideal.defs (F := Ideal)) _ _).mono (fun _ h c => ⟨(h c).1.trans ?_, (h c).2⟩)
    (Cert.Reference4Ideal.Value.run (F := Ideal) m' g')
  obtain ⟨h0, h1, h2, h3, h4, h5, h6, h7⟩ := hagree c
  funext i
  obtain ⟨r, k, rfl⟩ : ∃ (r : Fin 49664) (k : Fin 1024), i = ix2 r k := ⟨i 0, i 1, eq_ix2 i⟩
  refine (ref_apply m' c r k).trans ?_
  rw [h0, h1, h2, h3, h4, h5, h6, h7]
  rfl

end Cert.First

end
-- ==== Proof.FirstWordGather.lean ====
/- At the machine's words. What a tile of the first feed-forward call gathers before its half step: from the two tables of each source the rows of a
   window of the prompts or the samples, the meta tokens over the rows where a sequence begins, zeros from the padding on. -/
module

public import proofs.«01_k».proof.Proof.RowBlock
public import proofs.«01_k».proof.Proof.Gen.Kernel4.Launch
public import proofs.«01_k».proof.Proof.Gen.Kernel4.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Pointwise

@[expose] public section

set_option maxRecDepth 16384

noncomputable section

namespace Cert.FirstWord

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

/-- Where tile `i`'s entry stands in each table. -/
def pos (i : grid0.Coords) : Fin 97 :=
  S97.rowMajor ((Rect.unit (s := S97) (k0_off1 i) S1.size (k0_off1_inb i)).emb (Shape.Idx.first (numel1_S1.symm ▸ Nat.one_pos)))

theorem pos_val : ∀ i : grid0.Coords, (pos i).val = (i 0).val := by decide +kernel

/-- Whether a table's entry says that a source is read at this tile, as the body tests it. -/
def flag (w : BitVec 32) : BitVec 1 := Scalar.cmpi .ne (Scalar.extui (Scalar.cmpi .eq w 1#32)) 0#32

/-- The body's checks of its offsets hold at every tile. -/
theorem check1 : ∀ n : Fin 97, k0_chk1 (lit4 n) (lit5 n) := by decide +kernel
theorem check2 : ∀ n : Fin 97, k0_chk2 (lit6 n) (lit7 n) := by decide +kernel
theorem check3 : ∀ n : Fin 97, k0_chk3 (lit8 n) (lit8 n) := by decide +kernel

/-- The offsets in numbers. -/
theorem off4 : ∀ n : Fin 97, k0_off4 (lit4 n) (lit5 n) = ![(lit4 n).toNat, (lit5 n).toNat, 0] := fun _ => rfl
theorem off6 : ∀ n : Fin 97, k0_off6 (lit6 n) (lit7 n) = ![(lit6 n).toNat, (lit7 n).toNat, 0] := fun _ => rfl
theorem off9 : ∀ n : Fin 97, k0_off9 (lit8 n) = ![(lit8 n).toNat, 0] := fun _ => rfl

/-- A source that a row is taken from has been read at the same tile; a sequence's first row, if the tile holds one, leaves room
    for the meta tokens. -/
theorem reads : ∀ n : Fin 97,
    (0 < (lit8 n).toNat → (lit4 n).toNat = 0 ∧ flag (lit2 n) = 1#1 ∨ (lit4 n).toNat = 1 ∧ flag (lit3 n) = 1#1)
    ∧ ((lit8 n).toNat < 512 → (lit6 n).toNat = 0 ∧ flag (lit2 n) = 1#1 ∨ (lit6 n).toNat = 1 ∧ flag (lit3 n) = 1#1)
    ∧ (k0_cond3 (lit8 n) = 1#1 ↔ (lit8 n).toNat < 512) ∧ ((lit8 n).toNat < 512 → (lit8 n).toNat + 16 ≤ 512)
    ∧ (lit8 n).toNat ≤ 512 ∧ (lit9 n).toNat ≤ 512 ∧ (lit5 n).toNat ≤ 512 ∧ (lit7 n).toNat ≤ 512 := by decide +kernel

/-- Row `q` of two blocks, one under the other. -/
def under (a b : Vec Bits S512x1024 .f32) (q : Nat) (k : Fin 1024) : Bits .f32 :=
  if q < 512 then a (ix2 ⟨q % 512, Nat.mod_lt _ (by decide)⟩ k) else b (ix2 ⟨q % 512, Nat.mod_lt _ (by decide)⟩ k)

/-- The same of source `s`: the prompts' two blocks or the samples'. -/
def source (s : Nat) (pa pb sa sb : Vec Bits S512x1024 .f32) (q : Nat) (k : Fin 1024) : Bits .f32 :=
  if s = 0 then under pa pb q k else under sa sb q k

/-- The rows tile `n` gathers. -/
def rows (n : Fin 97) (pa pb sa sb : Vec Bits S512x1024 .f32) (me : Vec Bits S16x1024 .f32) : Vec Bits S512x1024 .f32 := fun y =>
  if h : (lit8 n).toNat ≤ (y 0).val ∧ (y 0).val < (lit8 n).toNat + 16 then me (ix2 ⟨(y 0).val - (lit8 n).toNat, by omega⟩ (y 1))
  else if (y 0).val < (lit9 n).toNat then
    if (y 0).val < (lit8 n).toNat then source (lit4 n).toNat pa pb sa sb ((lit5 n).toNat + (y 0).val) (y 1)
    else source (lit6 n).toNat pa pb sa sb ((lit7 n).toNat + (y 0).val) (y 1)
  else Scalar.ofBits (F := Bits) .f32 0x00000000#32

/-- The gathered rows by cases. -/
theorem rows_meta (n : Fin 97) (pa pb sa sb : Vec Bits S512x1024 .f32) (me : Vec Bits S16x1024 .f32) (r : Fin 512) (k : Fin 1024)
    (h : (lit8 n).toNat ≤ r.val ∧ r.val < (lit8 n).toNat + 16) :
    rows n pa pb sa sb me (ix2 r k) = me (ix2 ⟨r.val - (lit8 n).toNat, by omega⟩ k) := dif_pos h
theorem rows_rest (n : Fin 97) (pa pb sa sb : Vec Bits S512x1024 .f32) (me : Vec Bits S16x1024 .f32) (r : Fin 512) (k : Fin 1024)
    (h : ¬((lit8 n).toNat ≤ r.val ∧ r.val < (lit8 n).toNat + 16)) :
    rows n pa pb sa sb me (ix2 r k) = if r.val < (lit9 n).toNat then
      if r.val < (lit8 n).toNat then source (lit4 n).toNat pa pb sa sb ((lit5 n).toNat + r.val) k
      else source (lit6 n).toNat pa pb sa sb ((lit7 n).toNat + r.val) k
    else Scalar.ofBits (F := Bits) .f32 0x00000000#32 := dif_neg h

/-- The body's choice between its two windows and zero, at a row. -/
theorem choose (w w' : BitVec 32) (hw : w.toNat ≤ 512) (hw' : w'.toNat ≤ 512) (L₁ L₂ : Vec Bits S1x512x1024 .f32) (r : Fin 512) (k : Fin 1024) :
    k0_pay6 (F := Bits) w L₁ L₂ w' (ix2 r k)
      = if r.val < w'.toNat then if r.val < w.toNat then L₁ (ix3 0 r k) else L₂ (ix3 0 r k) else Scalar.ofBits (F := Bits) .f32 0x00000000#32 := by
  have e : ∀ v : BitVec 32, v.toNat ≤ 512 → ∀ {α : Type} (a b : α), Scalar.select (IntOp.cmpi .slt (BitVec.ofNat 32 r.val) v) a b = if r.val < v.toNat then a else b := by
    intro v hv α a b
    have h := Idealize.ShloMosaic.WordCmp.cmpi_slt_ofNat_eq_one_iff (w := 32) (a := r.val) (b := v.toNat) (by have := r.isLt; omega) (by omega)
    rw [BitVec.ofNat_toNat, BitVec.setWidth_eq] at h
    unfold Scalar.select
    by_cases hr : r.val < v.toNat
    · exact (if_pos (h.mpr hr)).trans (if_pos hr).symm
    · exact (if_neg (fun q => hr (h.mp q))).trans (if_neg hr).symm
  unfold k0_pay6
  refine Eq.trans ?_ ((e w' hw' (Scalar.select (IntOp.cmpi .slt (BitVec.ofNat 32 r.val) w) (L₁ (ix3 0 r k)) (L₂ (ix3 0 r k))) _).trans (by rw [e w hw]))
  pointwise

/-- The whole-array loads of the body. -/
abbrev all512 {M : Memref sig .tc .vmem S512x1024 .f32} (f : M.view.ty.Contents (Elt Bits)) : Vec Bits S512x1024 .f32 :=
  View.readAt (Elt Bits) M.view (Rect.unit ![0, 0] S512x1024.size inb_S512x1024_S512x1024_0_0).toLoadRect f

theorem all512_eq {M : Memref sig .tc .vmem S512x1024 .f32} (f : M.view.ty.Contents (Elt Bits)) : all512 (M := M) f = M.view.read (Elt Bits) f :=
  View.ld_unit_lit inb_S512x1024_S512x1024_0_0 (M.view.read (Elt Bits) f) (by decide)

/-- The two stores of one source's blocks, its number first. -/
abbrev two (s : Nat) (h₁ : ∀ a, (![s, 512, 0] : Fin 3 → Nat) a + S1x512x1024.size a ≤ S2x1024x1024.size a)
    (h₀ : ∀ a, (![s, 0, 0] : Fin 3 → Nat) a + S1x512x1024.size a ≤ S2x1024x1024.size a) (a b : Vec Bits S1x512x1024 .f32) :
    List (View.Piece (Elt Bits) S2x1024x1024 .f32) :=
  [⟨Rect.unit ![s, 512, 0] S1x512x1024.size h₁, b⟩, ⟨Rect.unit ![s, 0, 0] S1x512x1024.size h₀, a⟩]

/-- Read in that source, they give the blocks one under the other; -/
theorem two_in (M : Memref sig .tc .vmem S2x1024x1024 .f32) (f : M.view.ty.Contents (Elt Bits)) (s : Nat) (h₁ h₀)
    (a b : Vec Bits S1x512x1024 .f32) (A B : Vec Bits S512x1024 .f32) (ha : ∀ r k, a (ix3 0 r k) = A (ix2 r k)) (hb : ∀ r k, b (ix3 0 r k) = B (ix2 r k))
    (y : S2x1024x1024.Idx) (q : Nat) (k : Fin 1024) (hq : q < 1024) (y0 : (y 0).val = s) (y1 : (y 1).val = q) (y2 : (y 2).val = k.val) :
    M.view.read (Elt Bits) (M.view.writes (Elt Bits) f (two s h₁ h₀ a b)) y = under A B q k := by
  unfold under
  by_cases h : q < 512
  · rw [if_pos h, View.read_writes_cons_unit_of_not_mem M.view f h₁ b _ y rfl 1 (.inl (by show (y 1).val < 512; omega))]
    refine (View.read_writes_cons_unit_of_mem M.view f h₀ a [] y (ix3 (n0 := 1) (n1 := 512) (n2 := 1024) 0 ⟨q % 512, Nat.mod_lt _ (by decide)⟩ k) rfl ?_).trans (ha _ _)
    intro x
    match x with
    | ⟨0, _⟩ => exact y0
    | ⟨1, _⟩ => show (y 1).val = 0 + q % 512; omega
    | ⟨2, _⟩ => show (y 2).val = 0 + k.val; omega
  · rw [if_neg h]
    refine (View.read_writes_cons_unit_of_mem M.view f h₁ b _ y (ix3 (n0 := 1) (n1 := 512) (n2 := 1024) 0 ⟨q % 512, Nat.mod_lt _ (by decide)⟩ k) rfl ?_).trans (hb _ _)
    intro x
    match x with
    | ⟨0, _⟩ => exact y0
    | ⟨1, _⟩ => show (y 1).val = 512 + q % 512; omega
    | ⟨2, _⟩ => show (y 2).val = 0 + k.val; omega

/-- read in the other, what was there before. -/
theorem two_out (M : Memref sig .tc .vmem S2x1024x1024 .f32) (f : M.view.ty.Contents (Elt Bits)) (s : Nat) (h₁ h₀)
    (a b : Vec Bits S1x512x1024 .f32) (y : S2x1024x1024.Idx) (y0 : (y 0).val < s) :
    M.view.read (Elt Bits) (M.view.writes (Elt Bits) f (two s h₁ h₀ a b)) y = M.view.read (Elt Bits) f y := by
  rw [View.read_writes_cons_unit_of_not_mem M.view f h₁ b _ y rfl 0 (.inl y0), View.read_writes_cons_unit_of_not_mem M.view f h₀ a _ y rfl 0 (.inl y0)]
  rfl

/-- What the body leaves in the buffer of the two sources. -/
abbrev pair (u v : BitVec 1) (M : Memref sig .tc .vmem S2x1024x1024 .f32) (f : M.view.ty.Contents (Elt Bits)) (pa pb sa sb : Vec Bits S512x1024 .f32) :
    M.view.ty.Contents (Elt Bits) :=
  if hc : v = 1#1 then
    M.view.writes (Elt Bits)
      (if hc : u = 1#1 then M.view.writes (Elt Bits) f (two 0 inb_S2x1024x1024_S1x512x1024_0_512_0 inb_S2x1024x1024_S1x512x1024_0_0_0 (k0_pay2 pa) (k0_pay3 pb)) else f)
      (two 1 inb_S2x1024x1024_S1x512x1024_1_512_0 inb_S2x1024x1024_S1x512x1024_1_0_0 (k0_pay4 sa) (k0_pay5 sb))
  else if hc : u = 1#1 then M.view.writes (Elt Bits) f (two 0 inb_S2x1024x1024_S1x512x1024_0_512_0 inb_S2x1024x1024_S1x512x1024_0_0_0 (k0_pay2 pa) (k0_pay3 pb)) else f

theorem pay2_at (v : Vec Bits S512x1024 .f32) (r : Fin 512) (k : Fin 1024) : k0_pay2 (F := Bits) v (ix3 0 r k) = v (ix2 r k) := by
  unfold k0_pay2; pointwise
theorem pay3_at (v : Vec Bits S512x1024 .f32) (r : Fin 512) (k : Fin 1024) : k0_pay3 (F := Bits) v (ix3 0 r k) = v (ix2 r k) := by
  unfold k0_pay3; pointwise
theorem pay4_at (v : Vec Bits S512x1024 .f32) (r : Fin 512) (k : Fin 1024) : k0_pay4 (F := Bits) v (ix3 0 r k) = v (ix2 r k) := by
  unfold k0_pay4; pointwise
theorem pay5_at (v : Vec Bits S512x1024 .f32) (r : Fin 512) (k : Fin 1024) : k0_pay5 (F := Bits) v (ix3 0 r k) = v (ix2 r k) := by
  unfold k0_pay5; pointwise

/-- A window of it over a source that was read holds that source's rows. -/
theorem pair_at (u v : BitVec 1) (M : Memref sig .tc .vmem S2x1024x1024 .f32) (f : M.view.ty.Contents (Elt Bits)) (pa pb sa sb : Vec Bits S512x1024 .f32)
    (s e : Nat) (hs : s = 0 ∧ u = 1#1 ∨ s = 1 ∧ v = 1#1) (he : e ≤ 512) (off : Fin 3 → Nat) (ho : off = ![s, e, 0])
    (inb : ∀ a, off a + S1x512x1024.size a ≤ S2x1024x1024.size a) (r : Fin 512) (k : Fin 1024) :
    View.readAt (Elt Bits) M.view (Rect.unit (s := S2x1024x1024) off S1x512x1024.size inb).toLoadRect (pair u v M f pa pb sa sb) (ix3 0 r k)
      = source s pa pb sa sb (e + r.val) k := by
  subst ho
  have hr := r.isLt
  rw [View.readAt_apply]
  generalize hy : (Rect.unit (s := S2x1024x1024) ![s, e, 0] S1x512x1024.size inb).toLoadRect.idx (ix3 0 r k) = y
  have y0 : (y 0).val = s := by subst hy; show s + 1 * 0 = s; omega
  have y1 : (y 1).val = e + r.val := by subst hy; show e + 1 * r.val = _; omega
  have y2 : (y 2).val = k.val := by subst hy; show 0 + 1 * k.val = _; omega
  unfold source pair
  rcases hs with ⟨rfl, hu⟩ | ⟨rfl, hv⟩
  · rw [if_pos rfl]
    by_cases hv : v = 1#1
    · rw [dif_pos hv, dif_pos hu, two_out M _ 1 _ _ _ _ y (by omega)]
      exact two_in M _ 0 _ _ _ _ _ _ (pay2_at _) (pay3_at _) y _ k (by omega) y0 y1 y2
    · rw [dif_neg hv, dif_pos hu]
      exact two_in M _ 0 _ _ _ _ _ _ (pay2_at _) (pay3_at _) y _ k (by omega) y0 y1 y2
  · rw [if_neg (by decide), dif_pos hv]
    exact two_in M _ 1 _ _ _ _ _ _ (pay4_at _) (pay5_at _) y _ k (by omega) y0 y1 y2

theorem pay7_eq (v : Vec Bits S512x1024 .f32) : k0_pay7 (F := Bits) v = v := by
  unfold k0_pay7; first | rfl | (funext y; rw [← ix2_eta y]; pointwise)
theorem pay8_eq (v : Vec Bits S16x1024 .f32) : k0_pay8 (F := Bits) v = v := by
  unfold k0_pay8; first | rfl | (funext y; rw [← ix2_eta y]; pointwise)

abbrev rFull : Rect S512x1024 := Rect.unit (s := S512x1024) ![0, 0] S512x1024.size inb_S512x1024_S512x1024_0_0

/-- A store of the whole block covers it. -/
theorem cover (p : Vec Bits S512x1024 .f32) (y : S512x1024.Idx) :
    ∃ pc ∈ ([⟨rFull, p⟩] : List (View.Piece (Elt Bits) S512x1024 .f32)), y ∈ pc.1.set :=
  View.cover_of_tiled [⟨rFull, p⟩] S512x1024.size (by rfl) y

theorem stored (M : Memref sig .tc .vmem S512x1024 .f32) (f : M.view.ty.Contents (Elt Bits)) (R : Vec Bits S512x1024 .f32) :
    M.view.read (Elt Bits) (M.view.writes (Elt Bits) f [⟨Rect.unit ![0, 0] S512x1024.size inb_S512x1024_S512x1024_0_0, k0_pay7 (F := Bits) R⟩]) = R :=
  (View.read_writes_eq_canon _ _ _ (cover _)).trans ((View.canon_cons_unit_lit _ _ _ (by decide)).trans (pay7_eq R))

/-- What the body leaves in the buffer of the gathered rows. -/
abbrev rowsBuf (w w' : BitVec 32) (h : ∀ hc : k0_cond3 w = 1#1, ∀ a, k0_off9 w' a + S16x1024.size a ≤ S512x1024.size a) (M : Memref sig .tc .vmem S512x1024 .f32)
    (f g : M.view.ty.Contents (Elt Bits)) (R : Vec Bits S512x1024 .f32) (me : Vec Bits S16x1024 .f32) : M.view.ty.Contents (Elt Bits) :=
  if hc : k0_cond3 w = 1#1 then
    M.view.writes (Elt Bits) g
      (⟨Rect.unit (k0_off9 w') S16x1024.size (h hc), k0_pay8 (F := Bits) me⟩ :: [⟨Rect.unit ![0, 0] S512x1024.size inb_S512x1024_S512x1024_0_0, k0_pay7 (F := Bits) R⟩])
  else M.view.writes (Elt Bits) f [⟨Rect.unit ![0, 0] S512x1024.size inb_S512x1024_S512x1024_0_0, k0_pay7 (F := Bits) R⟩]

set_option maxHeartbeats 800000 in
/-- It is the tile's rows, whatever the two buffers held before. -/
theorem gathered_at (n : Fin 97) (M₂ : Memref sig .tc .vmem S2x1024x1024 .f32) (f₂ : M₂.view.ty.Contents (Elt Bits)) (M : Memref sig .tc .vmem S512x1024 .f32)
    (f g : M.view.ty.Contents (Elt Bits)) (pa pb sa sb : Vec Bits S512x1024 .f32) (me : Vec Bits S16x1024 .f32) (h)
    (h₁ : ∀ a, k0_off4 (lit4 n) (lit5 n) a + S1x512x1024.size a ≤ S2x1024x1024.size a)
    (h₂ : ∀ a, k0_off6 (lit6 n) (lit7 n) a + S1x512x1024.size a ≤ S2x1024x1024.size a) :
    M.view.read (Elt Bits) (rowsBuf (lit8 n) (lit8 n) h M f g
      (k0_pay6 (lit8 n)
        (View.readAt (Elt Bits) M₂.view (Rect.unit (s := S2x1024x1024) (k0_off4 (lit4 n) (lit5 n)) S1x512x1024.size h₁).toLoadRect (pair (flag (lit2 n)) (flag (lit3 n)) M₂ f₂ pa pb sa sb))
        (View.readAt (Elt Bits) M₂.view (Rect.unit (s := S2x1024x1024) (k0_off6 (lit6 n) (lit7 n)) S1x512x1024.size h₂).toLoadRect (pair (flag (lit2 n)) (flag (lit3 n)) M₂ f₂ pa pb sa sb))
        (lit9 n)) me) = rows n pa pb sa sb me := by
  obtain ⟨q1, q2, q3, q4, q5, q6, q7, q8⟩ := reads n
  funext y
  obtain ⟨r, k, rfl⟩ : ∃ r k, y = ix2 r k := ⟨y 0, y 1, (ix2_eta y).symm⟩
  have hr := r.isLt
  have low : ¬ ((lit8 n).toNat ≤ r.val ∧ r.val < (lit8 n).toNat + 16) → k0_pay6 (F := Bits) (lit8 n)
        (View.readAt (Elt Bits) M₂.view (Rect.unit (s := S2x1024x1024) (k0_off4 (lit4 n) (lit5 n)) S1x512x1024.size h₁).toLoadRect (pair (flag (lit2 n)) (flag (lit3 n)) M₂ f₂ pa pb sa sb))
        (View.readAt (Elt Bits) M₂.view (Rect.unit (s := S2x1024x1024) (k0_off6 (lit6 n) (lit7 n)) S1x512x1024.size h₂).toLoadRect (pair (flag (lit2 n)) (flag (lit3 n)) M₂ f₂ pa pb sa sb))
        (lit9 n) (ix2 r k) = rows n pa pb sa sb me (ix2 r k) := by
    intro hm
    rw [choose _ _ q5 q6, rows_rest n pa pb sa sb me r k hm]
    by_cases hv : r.val < (lit9 n).toNat
    · rw [if_pos hv, if_pos hv]
      by_cases ho : r.val < (lit8 n).toNat
      · rw [if_pos ho, if_pos ho]
        exact pair_at _ _ M₂ f₂ pa pb sa sb _ _ (q1 (by omega)) q7 _ (off4 n) h₁ r k
      · rw [if_neg ho, if_neg ho]
        exact pair_at _ _ M₂ f₂ pa pb sa sb _ _ (q2 (by omega)) q8 _ (off6 n) h₂ r k
    · rw [if_neg hv, if_neg hv]
  unfold rowsBuf
  by_cases hc : k0_cond3 (lit8 n) = 1#1
  · rw [dif_pos hc]
    by_cases hm : (lit8 n).toNat ≤ r.val ∧ r.val < (lit8 n).toNat + 16
    · refine (View.read_writes_cons_rows_of_mem M.view g (h hc) (k0_pay8 me) _ (ix2 r k)
        (ix2 (n0 := 16) (n1 := 1024) ⟨r.val - (lit8 n).toNat, by omega⟩ k) (off9 n) (by show r.val = (lit8 n).toNat + (r.val - (lit8 n).toNat); omega) rfl).trans ?_
      rw [pay8_eq, rows_meta n pa pb sa sb me r k hm]
    · refine (View.read_writes_cons_rows_of_not_mem (W := 16) M.view g (h hc) (k0_pay8 me) _ (ix2 r k) (off9 n) rfl (by show r.val < _ ∨ _ ≤ r.val; omega)).trans ?_
      exact (congrFun (stored M _ _) (ix2 r k)).trans (low hm)
  · rw [dif_neg hc]
    exact (congrFun (stored M _ _) (ix2 r k)).trans (low (by have := mt q3.mpr hc; omega))

/-- The same with the words the body has read. -/
theorem gathered (n : Fin 97) (M₂ : Memref sig .tc .vmem S2x1024x1024 .f32) (f₂ : M₂.view.ty.Contents (Elt Bits)) (M : Memref sig .tc .vmem S512x1024 .f32)
    (f g : M.view.ty.Contents (Elt Bits)) (pa pb sa sb : Vec Bits S512x1024 .f32) (me : Vec Bits S16x1024 .f32) (u v : BitVec 1)
    (s₁ e₁ s₂ e₂ o w w' l : BitVec 32) (hu : u = flag (lit2 n)) (hv : v = flag (lit3 n)) (hs₁ : s₁ = lit4 n) (he₁ : e₁ = lit5 n) (hs₂ : s₂ = lit6 n) (he₂ : e₂ = lit7 n)
    (ho : o = lit8 n) (hw : w = lit8 n) (hw' : w' = lit8 n) (hl : l = lit9 n) (h)
    (h₁ : ∀ a, k0_off4 s₁ e₁ a + S1x512x1024.size a ≤ S2x1024x1024.size a)
    (h₂ : ∀ a, k0_off6 s₂ e₂ a + S1x512x1024.size a ≤ S2x1024x1024.size a) :
    M.view.read (Elt Bits) (rowsBuf w w' h M f g
      (k0_pay6 o
        (View.readAt (Elt Bits) M₂.view (Rect.unit (s := S2x1024x1024) (k0_off4 s₁ e₁) S1x512x1024.size h₁).toLoadRect (pair u v M₂ f₂ pa pb sa sb))
        (View.readAt (Elt Bits) M₂.view (Rect.unit (s := S2x1024x1024) (k0_off6 s₂ e₂) S1x512x1024.size h₂).toLoadRect (pair u v M₂ f₂ pa pb sa sb))
        l) me) = rows n pa pb sa sb me := by
  subst hu hv hs₁ he₁ hs₂ he₂ ho hw hw' hl
  exact gathered_at n M₂ f₂ M f g pa pb sa sb me h h₁ h₂

end Cert.FirstWord

end
-- ==== Proof.FirstWordTile.lean ====
/- At the machine's words. The body of the first feed-forward call: at any tile it stores the half step of the rows the tile gathers. -/
module

public import proofs.«01_k».proof.Proof.FirstWordGather
public import proofs.«01_k».proof.Proof.Gen.Kernel4.Launch
public import proofs.«01_k».proof.Proof.Gen.Kernel4.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.FirstWord

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

open Cert.RowBlock

/-- A table held at its contents, at the half of the full share a kernel body is given. -/
abbrev TbBuf (c : Dev nD) {S : Shape} {e : EltTy} (M : Memref sig .tc .smem S e) : Type := Buf (Elt Bits) (M.view.loc (c : Thread nD τ))
abbrev tbPt (c : Dev nD) {S : Shape} {e : EltTy} (M : Memref sig .tc .smem S e) (f : TbBuf c M) : sProp 𝕄 :=
  M.view.loc (c : Thread nD τ) ↦{fullShare.right} f

/-- The ten tables at what the host wrote. -/
def tables (c : Dev nD) : sProp 𝕄 :=
  iprop(tbPt c (Memref.whole main_c) (fun i => lit0 (S97.rowMajor i)) ∗ tbPt c (Memref.whole main_c_0) (fun i => lit1 (S97.rowMajor i)) ∗ tbPt c (Memref.whole main_c_1) (fun i => lit2 (S97.rowMajor i)) ∗ tbPt c (Memref.whole main_c_2) (fun i => lit3 (S97.rowMajor i)) ∗ tbPt c (Memref.whole main_c_3) (fun i => lit4 (S97.rowMajor i)) ∗ tbPt c (Memref.whole main_c_4) (fun i => lit5 (S97.rowMajor i)) ∗ tbPt c (Memref.whole main_c_5) (fun i => lit6 (S97.rowMajor i)) ∗ tbPt c (Memref.whole main_c_6) (fun i => lit7 (S97.rowMajor i)) ∗ tbPt c (Memref.whole main_c_7) (fun i => lit8 (S97.rowMajor i)) ∗ tbPt c (Memref.whole main_c_8) (fun i => lit9 (S97.rowMajor i)))

abbrev rG : Rect S1x1024 := Rect.unit (s := S1x1024) ![0, 0] S1x1024.size inb_S1x1024_S1x1024_0_0

theorem whole_loads (X R : Vec Bits S512x1024 .f32) (h : X = R) (x1 x2 : Vec Bits S1x1024 .f32) (x3 x4 : Vec Bits S1024x2816 .bf16)
    (x5 : Vec Bits S2816x1024 .bf16) :
    halfB (F := Bits) (Scalar.ofBits (F := Bits) .f32 0xBFB8AA3B#32) X (View.ld x1 rG) (View.ld x2 rG) x3 x4 x5
      = halfB (F := Bits) (Scalar.ofBits (F := Bits) .f32 0xBFB8AA3B#32) R x1 x2 x3 x4 x5 := by
  subst h
  rw [View.ld_unit_lit _ x1 (by decide), View.ld_unit_lit _ x2 (by decide)]

theorem meta_load {M : Memref sig .tc .vmem S16x1024 .f32} (f : M.view.ty.Contents (Elt Bits)) :
    View.readAt (Elt Bits) M.view (Rect.unit ![0, 0] S16x1024.size inb_S16x1024_S16x1024_0_0).toLoadRect f = M.view.read (Elt Bits) f :=
  View.ld_unit_lit inb_S16x1024_S16x1024_0_0 (M.view.read (Elt Bits) f) (by decide)

set_option maxHeartbeats 600000 in
/-- A tile stores the half step of the rows it gathers. -/
theorem tile (c : Dev nD) (i : grid0.Coords) (apa : Memref sig .tc .vmem S512x1024 .f32) (hpa : apa.IsWhole) (apb : Memref sig .tc .vmem S512x1024 .f32) (hpb : apb.IsWhole) (asa : Memref sig .tc .vmem S512x1024 .f32) (hsa : asa.IsWhole) (asb : Memref sig .tc .vmem S512x1024 .f32) (hsb : asb.IsWhole) (ame : Memref sig .tc .vmem S16x1024 .f32) (hme : ame.IsWhole) (ag1 : Memref sig .tc .vmem S1x1024 .f32) (hg1 : ag1.IsWhole) (ag2 : Memref sig .tc .vmem S1x1024 .f32) (hg2 : ag2.IsWhole) (awg : Memref sig .tc .vmem S1024x2816 .bf16) (hwg : awg.IsWhole) (awu : Memref sig .tc .vmem S1024x2816 .bf16) (hwu : awu.IsWhole) (awd : Memref sig .tc .vmem S2816x1024 .bf16) (hwd : awd.IsWhole) (ao : Memref sig .tc .vmem S512x1024 .f32) (ho : ao.IsWhole) (apr : Memref sig .tc .vmem S2x1024x1024 .f32) (hpr : apr.IsWhole) (asx : Memref sig .tc .vmem S512x1024 .f32) (hsx : asx.IsWhole)
  (xpa : Vec Bits S512x1024 .f32) (xpb : Vec Bits S512x1024 .f32) (xsa : Vec Bits S512x1024 .f32) (xsb : Vec Bits S512x1024 .f32) (xme : Vec Bits S16x1024 .f32) (xg1 : Vec Bits S1x1024 .f32) (xg2 : Vec Bits S1x1024 .f32) (xwg : Vec Bits S1024x2816 .bf16) (xwu : Vec Bits S1024x2816 .bf16) (xwd : Vec Bits S2816x1024 .bf16)
  (K : PUnit → sProp 𝕄) :
  iprop(owns (c : Thread nD τ) apa fullShare xpa ∗ owns (c : Thread nD τ) apb fullShare xpb ∗ owns (c : Thread nD τ) asa fullShare xsa ∗ owns (c : Thread nD τ) asb fullShare xsb ∗ owns (c : Thread nD τ) ame fullShare xme ∗ owns (c : Thread nD τ) ag1 fullShare xg1 ∗ owns (c : Thread nD τ) ag2 fullShare xg2 ∗ owns (c : Thread nD τ) awg fullShare xwg ∗ owns (c : Thread nD τ) awu fullShare xwu ∗ owns (c : Thread nD τ) awd fullShare xwd
    ∗ (∃ d, owns (c : Thread nD τ) ao fullShare d) ∗ (∃ d, owns (c : Thread nD τ) apr fullShare d) ∗ (∃ d, owns (c : Thread nD τ) asx fullShare d)
    ∗ tables c ∗ (iprop(owns (c : Thread nD τ) apa fullShare xpa ∗ owns (c : Thread nD τ) apb fullShare xpb ∗ owns (c : Thread nD τ) asa fullShare xsa ∗ owns (c : Thread nD τ) asb fullShare xsb ∗ owns (c : Thread nD τ) ame fullShare xme ∗ owns (c : Thread nD τ) ag1 fullShare xg1 ∗ owns (c : Thread nD τ) ag2 fullShare xg2 ∗ owns (c : Thread nD τ) awg fullShare xwg ∗ owns (c : Thread nD τ) awu fullShare xwu ∗ owns (c : Thread nD τ) awd fullShare xwd ∗ owns (c : Thread nD τ) ao fullShare (halfB (F := Bits) (Scalar.ofBits (F := Bits) .f32 0xBFB8AA3B#32) (rows (pos i) xpa xpb xsa xsb xme) xg1 xg2 xwg xwu xwd)
      ∗ (∃ d, owns (c : Thread nD τ) apr fullShare d) ∗ (∃ d, owns (c : Thread nD τ) asx fullShare d) ∗ tables c) -∗ K ⟨⟩))
   ⊢ wp frame (wpE (defs₀ (F := Bits)) Variants.none c none) Set.univ (cc0_ffn_first i (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (Memref.whole main_c_4) (Memref.isWhole_whole _) (Memref.whole main_c_5) (Memref.isWhole_whole _) (Memref.whole main_c_6) (Memref.isWhole_whole _) (Memref.whole main_c_7) (Memref.isWhole_whole _) (Memref.whole main_c_8) (Memref.isWhole_whole _) apa hpa apb hpb asa hsa asb hsb ame hme ag1 hg1 ag2 hg2 awg hwg awu hwu awd hwd ao ho apr hpr asx hsx) K := by
  simp only [cc0_ffn_first_eq_skeleton]; unfold cc0_ffn_first_skel
  simp only [k0_part1_eq_skeleton, k0_part2_eq_skeleton, k0_part3_eq_skeleton, k0_part4_eq_skeleton, k0_part5_eq_skeleton, k0_part6_eq_skeleton, k0_part7_eq_skeleton]
  unfold owns tables
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dpo, %fo, -, Ho⟩, ⟨%dpr, %fpr, -, Hpr⟩, ⟨%dsx, %fsx, -, Hsx⟩, ⟨HT0, HT1, HT2, HT3, HT4, HT5, HT6, HT7, HT8, HT9⟩, Hk⟩
  subst hf0 hf1 hf2 hf3 hf4 hf5 hf6 hf7 hf8 hf9
  sl_exec (disch := first | exact check1 (pos i) | exact check2 (pos i) | exact check3 (pos i))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro
    refine (View.read_writes_eq_canon _ _ _ (cover _)).trans ?_
    refine (View.canon_cons_unit_lit _ _ _ (by decide)).trans ?_
    have key : tile.sl.v52 c i apa apb asa asb ame apr asx f0 f1 f2 f3 f4 fpr fsx = rows (pos i) (apa.view.read (Elt Bits) f0) (apb.view.read (Elt Bits) f1) (asa.view.read (Elt Bits) f2) (asb.view.read (Elt Bits) f3) (ame.view.read (Elt Bits) f4) := by
      have hu : tile.sl.v4 c i = flag (lit2 (pos i)) := rfl
      have hv : tile.sl.v9 c i = flag (lit3 (pos i)) := rfl
      have hs₁ : tile.sl.r_3 c i = lit4 (pos i) := rfl
      have he₁ : tile.sl.r_4 c i = lit5 (pos i) := rfl
      have hs₂ : tile.sl.r_5 c i = lit6 (pos i) := rfl
      have he₂ : tile.sl.r_6 c i = lit7 (pos i) := rfl
      have ho : tile.sl.r_2 c i = lit8 (pos i) := rfl
      have hw : tile.sl.r_9 c i = lit8 (pos i) := rfl
      have hw' : tile.sl.r_10 c i = lit8 (pos i) := rfl
      have hl : tile.sl.r_7 c i = lit9 (pos i) := rfl
      have p1 : tile.sl.v22 c i apa apb asa asb apr f0 f1 f2 f3 fpr = View.readAt (Elt Bits) apr.view (Rect.unit (s := S2x1024x1024) (k0_off4 (tile.sl.r_3 c i) (tile.sl.r_4 c i)) S1x512x1024.size (check1 (pos i)).2).toLoadRect (pair (tile.sl.v4 c i) (tile.sl.v9 c i) apr fpr (all512 f0) (all512 f1) (all512 f2) (all512 f3)) := by unfold tile.sl.v22; rfl
      have p2 : tile.sl.v31 c i apa apb asa asb apr f0 f1 f2 f3 fpr = View.readAt (Elt Bits) apr.view (Rect.unit (s := S2x1024x1024) (k0_off6 (tile.sl.r_5 c i) (tile.sl.r_6 c i)) S1x512x1024.size (check2 (pos i)).2).toLoadRect (pair (tile.sl.v4 c i) (tile.sl.v9 c i) apr fpr (all512 f0) (all512 f1) (all512 f2) (all512 f3)) := by unfold tile.sl.v31; rfl
      have p4 : tile.sl.v52 c i apa apb asa asb ame apr asx f0 f1 f2 f3 f4 fpr fsx = View.readAt (Elt Bits) asx.view rFull.toLoadRect (rowsBuf (tile.sl.r_9 c i) (tile.sl.r_10 c i) (check3 (pos i)).2 asx fsx asx.view.junk (tile.sl.r_8 c i apa apb asa asb apr f0 f1 f2 f3 fpr) (View.readAt (Elt Bits) ame.view (Rect.unit ![0, 0] S16x1024.size inb_S16x1024_S16x1024_0_0).toLoadRect f4)) := by unfold tile.sl.v52 tile.sl.Hsx_1; rfl
      have p3 : tile.sl.r_8 c i apa apb asa asb apr f0 f1 f2 f3 fpr = k0_pay6 (tile.sl.r_2 c i) (tile.sl.v22 c i apa apb asa asb apr f0 f1 f2 f3 fpr) (tile.sl.v31 c i apa apb asa asb apr f0 f1 f2 f3 fpr) (tile.sl.r_7 c i) := by unfold tile.sl.r_8; rfl
      have G := gathered (pos i) apr fpr asx fsx asx.view.junk (all512 (M := apa) f0) (all512 (M := apb) f1) (all512 (M := asa) f2) (all512 (M := asb) f3) (View.readAt (Elt Bits) ame.view (Rect.unit ![0, 0] S16x1024.size inb_S16x1024_S16x1024_0_0).toLoadRect f4)
        (tile.sl.v4 c i) (tile.sl.v9 c i) (tile.sl.r_3 c i) (tile.sl.r_4 c i) (tile.sl.r_5 c i) (tile.sl.r_6 c i) (tile.sl.r_2 c i)
        (tile.sl.r_9 c i) (tile.sl.r_10 c i) (tile.sl.r_7 c i) hu hv hs₁ he₁ hs₂ he₂ ho hw hw' hl (check3 (pos i)).2 (check1 (pos i)).2 (check2 (pos i)).2
      rw [← p1, ← p2, ← p3, all512_eq, all512_eq, all512_eq, all512_eq, meta_load] at G
      rw [p4]
      refine (all512_eq (M := asx) _).trans ?_
      rw [meta_load]
      exact G
    unfold tile.sl.r_23 tile.sl.r_22 tile.sl.r_21 tile.sl.r_20 tile.sl.r_19 tile.sl.r_18 tile.sl.r_17 tile.sl.r_16 tile.sl.r_15 tile.sl.r_14 tile.sl.r_13 tile.sl.r_12 tile.sl.r_11
    generalize tile.sl.v52 c i apa apb asa asb ame apr asx f0 f1 f2 f3 f4 fpr fsx = X at key ⊢
    refine Eq.trans ?_ (whole_loads X _ key (ag1.view.read (Elt Bits) f5) (ag2.view.read (Elt Bits) f6) (awg.view.read (Elt Bits) f7) (awu.view.read (Elt Bits) f8) (awd.view.read (Elt Bits) f9))
    rfl
  isplitl [Hpr]
  · iexists _; iexists _; isplitr
    swap; · iexact Hpr
    ipureintro; rfl
  isplitl [Hsx]
  · iexists _; iexists _; isplitr
    swap; · iexact Hsx
    ipureintro; rfl
  iframe

end Cert.FirstWord

end
-- ==== Proof.FirstWordRun.lean ====
/- At the machine's words. The first feed-forward call run: every tile leaves its block of the packed result at the half step of the rows it gathers,
   and the whole run ends with the packed result at what the tiles wrote back. -/
module

public import proofs.«01_k».proof.Proof.FirstWordKit
public import proofs.«01_k».proof.Proof.FirstWordTile
public import Idealize.ShloMosaic.Lib.Claim

@[expose] public section

set_option maxRecDepth 16384

noncomputable section

namespace Cert.FirstWord

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

open Cert.RowBlock

variable (m : (ℓ : Loc nD τ sig) → Buf (Elt Bits) ℓ) (ρ : Dev nD → PrngReg)

/-- Where a tile's entry stands in the tables. -/
abbrev at' (t : Fin (cfgM (F := Bits)).N) : Fin 97 := pos (grid0.coords t)

/-- What tile `t` computes. -/
def yblk (c : Dev nD) (t : Fin (cfgM (F := Bits)).N) : Vec Bits S512x1024 .f32 :=
  halfB (F := Bits) (Scalar.ofBits (F := Bits) .f32 0xBFB8AA3B#32) (rows (at' t) (iblk m c 0 t) (iblk m c 1 t) (iblk m c 2 t) (iblk m c 3 t) (iblk m c 4 t)) (iblk m c 5 t) (iblk m c 6 t) (iblk m c 7 t) (iblk m c 8 t) (iblk m c 9 t)

/-- What the buffers hold after each tile: inputs their blocks, the result's what the tile computed. -/
def dats (_ : Fin 1) (c : Dev nD) : Dat τ (Elt Bits) Unit ℕ (UR sig nD τ) ℕ (cfgM (F := Bits)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yblk m c t
  Φ _ := iprop(Pipeline.ΦA spec0 c ∗ Pipeline.ΦT pre0 tbl c)
  q w := Pipeline.shareOf spec0 w
  owed _ := 0

theorem A_eq (c : Dev nD) (w : Fin (cfgM (F := Bits)).W) : (dats m 0 c).A w = V m c (Pipeline.arrRef spec0 w) := by
  dsimp only [dats]

theorem after0 (c : Dev nD) (t : Fin (cfgM (F := Bits)).N) : (dats m 0 c).after 0 t = iblk m c 0 t := by dsimp only [dats]; try rfl
theorem after1 (c : Dev nD) (t : Fin (cfgM (F := Bits)).N) : (dats m 0 c).after 1 t = iblk m c 1 t := by dsimp only [dats]; try rfl
theorem after2 (c : Dev nD) (t : Fin (cfgM (F := Bits)).N) : (dats m 0 c).after 2 t = iblk m c 2 t := by dsimp only [dats]; try rfl
theorem after3 (c : Dev nD) (t : Fin (cfgM (F := Bits)).N) : (dats m 0 c).after 3 t = iblk m c 3 t := by dsimp only [dats]; try rfl
theorem after4 (c : Dev nD) (t : Fin (cfgM (F := Bits)).N) : (dats m 0 c).after 4 t = iblk m c 4 t := by dsimp only [dats]; try rfl
theorem after5 (c : Dev nD) (t : Fin (cfgM (F := Bits)).N) : (dats m 0 c).after 5 t = iblk m c 5 t := by dsimp only [dats]; try rfl
theorem after6 (c : Dev nD) (t : Fin (cfgM (F := Bits)).N) : (dats m 0 c).after 6 t = iblk m c 6 t := by dsimp only [dats]; try rfl
theorem after7 (c : Dev nD) (t : Fin (cfgM (F := Bits)).N) : (dats m 0 c).after 7 t = iblk m c 7 t := by dsimp only [dats]; try rfl
theorem after8 (c : Dev nD) (t : Fin (cfgM (F := Bits)).N) : (dats m 0 c).after 8 t = iblk m c 8 t := by dsimp only [dats]; try rfl
theorem after9 (c : Dev nD) (t : Fin (cfgM (F := Bits)).N) : (dats m 0 c).after 9 t = iblk m c 9 t := by dsimp only [dats]; try rfl
theorem after10 (c : Dev nD) (t : Fin (cfgM (F := Bits)).N) : (dats m 0 c).after 10 t = yblk m c t := by dsimp only [dats]; try rfl

theorem before0 (c : Dev nD) (t : Fin (cfgM (F := Bits)).N) (d) : (dats m 0 c).before 0 t d = iblk m c 0 t :=
  found0 m (dats m 0 c) (A_eq m c 0) (after0 m c) t d
theorem before1 (c : Dev nD) (t : Fin (cfgM (F := Bits)).N) (d) : (dats m 0 c).before 1 t d = iblk m c 1 t :=
  found1 m (dats m 0 c) (A_eq m c 1) (after1 m c) t d
theorem before2 (c : Dev nD) (t : Fin (cfgM (F := Bits)).N) (d) : (dats m 0 c).before 2 t d = iblk m c 2 t :=
  found2 m (dats m 0 c) (A_eq m c 2) (after2 m c) t d
theorem before3 (c : Dev nD) (t : Fin (cfgM (F := Bits)).N) (d) : (dats m 0 c).before 3 t d = iblk m c 3 t :=
  found3 m (dats m 0 c) (A_eq m c 3) (after3 m c) t d
theorem before4 (c : Dev nD) (t : Fin (cfgM (F := Bits)).N) (d) : (dats m 0 c).before 4 t d = iblk m c 4 t :=
  found4 m (dats m 0 c) (A_eq m c 4) (after4 m c) t d
theorem before5 (c : Dev nD) (t : Fin (cfgM (F := Bits)).N) (d) : (dats m 0 c).before 5 t d = iblk m c 5 t :=
  found5 m (dats m 0 c) (A_eq m c 5) (after5 m c) t d
theorem before6 (c : Dev nD) (t : Fin (cfgM (F := Bits)).N) (d) : (dats m 0 c).before 6 t d = iblk m c 6 t :=
  found6 m (dats m 0 c) (A_eq m c 6) (after6 m c) t d
theorem before7 (c : Dev nD) (t : Fin (cfgM (F := Bits)).N) (d) : (dats m 0 c).before 7 t d = iblk m c 7 t :=
  found7 m (dats m 0 c) (A_eq m c 7) (after7 m c) t d
theorem before8 (c : Dev nD) (t : Fin (cfgM (F := Bits)).N) (d) : (dats m 0 c).before 8 t d = iblk m c 8 t :=
  found8 m (dats m 0 c) (A_eq m c 8) (after8 m c) t d
theorem before9 (c : Dev nD) (t : Fin (cfgM (F := Bits)).N) (d) : (dats m 0 c).before 9 t d = iblk m c 9 t :=
  found9 m (dats m 0 c) (A_eq m c 9) (after9 m c) t d

/-- The tables' halves, table by table. -/
theorem tables_eq (c : Dev nD) : (Pipeline.ΦT pre0 tbl c : sProp 𝕄) = tables c := by
  unfold Pipeline.ΦT Pipeline.prefHeld
  rw [show (Finset.univ : Finset (Fin 10)) = insert (0 : Fin 10) (insert (1 : Fin 10) (insert (2 : Fin 10) (insert (3 : Fin 10) (insert (4 : Fin 10) (insert (5 : Fin 10) (insert (6 : Fin 10) (insert (7 : Fin 10) (insert (8 : Fin 10) {(9 : Fin 10)})))))))) from by decide,
    bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-- What a tile finds besides its windows: the two scratch buffers at whatever they hold, the tables. -/
theorem Phi_eq (c : Dev nD) (t) : (dats m 0 c).Φ t = (iprop((((∃ d, owns (c : Thread nD τ) (Memref.whole cc0_scratch0) fullShare d) ∗ (∃ d, owns (c : Thread nD τ) (Memref.whole cc0_scratch1) fullShare d))
    ∗ ∃ r, prngReg c r) ∗ tables c) : sProp 𝕄) := by
  show iprop(Pipeline.ΦA spec0 c ∗ Pipeline.ΦT pre0 tbl c) = _
  unfold Pipeline.ΦA
  have e0 : (iprop(∃ d, owns (c : Thread nD τ) (Memref.whole cc0_scratch0) fullShare d) : sProp 𝕄) = iprop(∃ f : Buf (Elt Bits) ((c : Thread nD τ).loc cc0_scratch0), ((c : Thread nD τ).loc cc0_scratch0) ↦{fullShare} f) :=
    Memref.IsWhole.exists_owns_eq (c := (c : Thread nD τ)) (Memref.isWhole_whole _) fullShare
  have e1 : (iprop(∃ d, owns (c : Thread nD τ) (Memref.whole cc0_scratch1) fullShare d) : sProp 𝕄) = iprop(∃ f : Buf (Elt Bits) ((c : Thread nD τ).loc cc0_scratch1), ((c : Thread nD τ).loc cc0_scratch1) ↦{fullShare} f) :=
    Memref.IsWhole.exists_owns_eq (c := (c : Thread nD τ)) (Memref.isWhole_whole _) fullShare
  rw [tables_eq, scopedRest0_eq c, e0, e1]

/-- What the body is called with at a tile, and what it returns. -/
def bodyPre (c : Dev nD) (t : Fin (cfgM (F := Bits)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin (cfgM (F := Bits)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A window never idle is left at `after`. -/
theorem leaves_live (c : Dev nD) (w : Fin (cfgM (F := Bits)).W) (t : Fin (cfgM (F := Bits)).N) :
    (dats m 0 c).leavesExact w t
      = owns (c : Thread nD τ) (((cfgM (F := Bits)).win w).stage ((cfgM (F := Bits)).slots t w)) fullShare ((dats m 0 c).after w t) := by
  unfold Dat.leavesExact
  rw [show (cfgM (F := Bits)).idle w ((cfgM (F := Bits)).grid.coords t) = false from live w t]

set_option maxHeartbeats 1600000 in
/-- The body at any tile. -/
theorem sound (c : Dev nD) (t : Fin (cfgM (F := Bits)).N) :
    bodyPre m c t ⊢ wp frame (wpE (defs₀ (F := Bits)) Variants.none c none) Set.univ (bodyAt t) (fun _ => bodyPost m c t) := by
  unfold bodyPre bodyPost bodyAt
  simp only [before0, before1, before2, before3, before4, before5, before6, before7, before8, before9]
  rw [Phi_eq, Phi_eq, show (dats m 0 c).owesAt () t.succ = (dats m 0 c).owesAt () t.castSucc from rfl]
  rw [leaves_live m c 0 t, after0]
  rw [leaves_live m c 1 t, after1]
  rw [leaves_live m c 2 t, after2]
  rw [leaves_live m c 3 t, after3]
  rw [leaves_live m c 4 t, after4]
  rw [leaves_live m c 5 t, after5]
  rw [leaves_live m c 6 t, after6]
  rw [leaves_live m c 7 t, after7]
  rw [leaves_live m c 8 t, after8]
  rw [leaves_live m c 9 t, after9]
  rw [leaves_live m c 10 t, after10]
  iintro ⟨⟨⟨⟨Hp, Hx⟩, Hr⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hp]; · iexact Hp
  isplitl [Hx]; · iexact Hx
  isplitl [HT]; · iexact HT
  iintro ⟨H0, H1, H2, H3, H4, H5, H6, H7, H8, H9, H10, Hp, Hx, HT⟩
  isplitl [Hp Hx Hr HT]
  · isplitl [Hp Hx Hr]
    · isplitl [Hp Hx]
      · isplitl [Hp]; · iexact Hp
        iexact Hx
      iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row (t : Fin (cfgM (F := Bits)).N) :
    defs₀ (F := Bits) .tc (cfgM (F := Bits)).body ((cfgM (F := Bits)).bodyArgs t ((cfgM (F := Bits)).slots t)) = bodyAt t := by
  unfold defs₀; rw [Defs.onTc_tc]

/-- The body meets the pipeline's obligation at every tile. -/
theorem obligation (c : Dev nD) : BodyObligation (dats m 0 c) (defs₀ (F := Bits)) Variants.none () Set.univ := fun t => by
  rw [bigSep_W0, bigSep_W0, row]
  exact triple_restated (sound m c t) rfl .rfl fun _ => .rfl

set_option backward.isDefEq.respectTransparency.types false in
set_option maxHeartbeats 800000 in
/-- The whole run: the pipeline's arrays end at what the tiles wrote back, the other buffers as they were, the counters at zero. -/
theorem run_arrays : θ_run defs (onTc (τ := τ) (main (F := Bits))) (s₀ m ρ)
    (fun r => (Pipeline.FramePost (Pipeline.pin pcfgs fun _ => adm) (dats m) 0 (V m)) r ∧ r.2.sem = fun _ => 0) :=
  Pipeline.θ_run_frameP_shared (Q' := _) pcfgs (fun _ => adm) (dats m) (0 : Fin 1) launch₀0 defs₀ Variants.none m ρ main
    (hbody := fun c => (obligation m c).loose) (hq := fun _ _ _ => rfl)
    (howed := fun _ _ => rfl) (V := V m) (hmain := upto m Variants.none) (hA := A_eq m) (hpf := V_tbl m) (hΦ := fun _ _ => rfl)
    (hQ' := fun _ h => h)

end Cert.FirstWord

end
-- ==== Proof.FirstWord.lean ====
/- The frame of the first feed-forward call at the machine's words. -/
module

public import proofs.«01_k».proof.Defs
public import proofs.«01_k».proof.Proof.FirstWordRun

@[expose] public section

set_option maxRecDepth 16384

noncomputable section

namespace Cert.FirstWord

open Cert.Kernel4 Cert.Kernel4.Gen Idealize.ShloMosaic Idealize.ShloMosaic.TcCoe Idealize.SL.Sem

/-- The call runs and leaves its arguments and counters as they were. -/
theorem quiet : Cert.quiescent_Kernel4 := fun m g _ =>
  (θ_run (Cert.Kernel4.defs (F := Bits)) _ _).mono (fun _ h => ⟨fun c =>
    ⟨((h.1 c).2 main_arg0 (by decide : main_arg0 ∈ Pipeline.restRefs sig spec0)).trans (V_kept m c main_arg0 (by decide)),
     ((h.1 c).2 main_arg1 (by decide : main_arg1 ∈ Pipeline.restRefs sig spec0)).trans (V_kept m c main_arg1 (by decide)),
     ((h.1 c).1 4).trans (((dats m 0 c).arrAt_in 4 rfl _).trans ((A_eq m c 4).trans (V_kept m c main_arg2 (by decide)))),
     ((h.1 c).2 main_arg3 (by decide : main_arg3 ∈ Pipeline.restRefs sig spec0)).trans (V_kept m c main_arg3 (by decide)),
     ((h.1 c).2 main_arg4 (by decide : main_arg4 ∈ Pipeline.restRefs sig spec0)).trans (V_kept m c main_arg4 (by decide)),
     ((h.1 c).2 main_arg5 (by decide : main_arg5 ∈ Pipeline.restRefs sig spec0)).trans (V_kept m c main_arg5 (by decide)),
     ((h.1 c).2 main_arg6 (by decide : main_arg6 ∈ Pipeline.restRefs sig spec0)).trans (V_kept m c main_arg6 (by decide)),
     ((h.1 c).2 main_arg7 (by decide : main_arg7 ∈ Pipeline.restRefs sig spec0)).trans (V_kept m c main_arg7 (by decide))⟩, h.2⟩)
    (run_arrays m g)

end Cert.FirstWord

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel2Ideal.Value
public import proofs.«01_k».proof.Proof.Gen.Reference3Ideal.Run
public import proofs.«01_k».proof.Proof.Gen.Kernel3.Frame
public import proofs.«01_k».proof.Proof.Gen.Kernel3
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel4.Skeleton
public import proofs.«01_k».proof.Proof.Gen.Kernel4.Launch
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Word
public import proofs.«01_k».proof.Proof.Last
public import proofs.«01_k».proof.Proof.Mid
public import proofs.«01_k».proof.Proof.Gate
public import proofs.«01_k».proof.Proof.First
public import proofs.«01_k».proof.Proof.FirstWord
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The first two references have no counter. -/
theorem quiet_ref : @Cert.quiescent_ReferenceIdeal Cert.ReferenceIdeal.Gen.facts := fun m g _ =>
  (θ_run (Cert.ReferenceIdeal.defs (F := Ideal)) _ _).mono (fun r h => ⟨fun c => (h c).2.2, sem_eq_zero_of_no_sems rfl r.2⟩)
    (Cert.ReferenceIdeal.Value.run (F := Ideal) m g)
theorem quiet_ref2 : @Cert.quiescent_Reference2Ideal Cert.Reference2Ideal.Gen.facts := fun m g _ =>
  (θ_run (Cert.Reference2Ideal.defs (F := Ideal)) _ _).mono (fun r h => ⟨fun c => (h c).2, sem_eq_zero_of_no_sems rfl r.2⟩)
    (Cert.Reference2Ideal.Value.run (F := Ideal) m g)

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Word.quiet, Cert.Last.quiet, quiet_ref,
    fun m g _ => Cert.Kernel2.Gen.frame m g, fun m g _ => Cert.Kernel2Ideal.Gen.frame m g, quiet_ref2,
    fun m g _ => Cert.Kernel3.Gen.frame m g, fun m g _ => Cert.Kernel3Ideal.Gen.frame m g, Cert.Gate.quiet_ref,
    Cert.FirstWord.quiet, Cert.First.quiet, Cert.First.quiet_ref,
    Cert.Last.preserves, Cert.Last.algebraic, Cert.Mid.preserves, Cert.Mid.algebraic,
    trivial, Cert.Gate.algebraic, Cert.First.preserves, Cert.First.algebraic⟩

end Cert.Proof

end
